-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_PostMlp (m : (ℓ : Loc Cert.PostMlp.nD Cert.PostMlp.τ Cert.PostMlp.sig) → Buf (Elt Bits) ℓ) : Prop :=
  True

def Pre_PostMlpIdeal (m : (ℓ : Loc Cert.PostMlpIdeal.nD Cert.PostMlpIdeal.τ Cert.PostMlpIdeal.sig) → Buf (Elt Ideal) ℓ) : Prop :=
  True

def Pre_PostMlpRefIdeal (m : (ℓ : Loc Cert.PostMlpRefIdeal.nD Cert.PostMlpRefIdeal.τ Cert.PostMlpRefIdeal.sig) → Buf (Elt Ideal) ℓ) : Prop :=
  True

def Pre_Compress (m : (ℓ : Loc Cert.Compress.nD Cert.Compress.τ Cert.Compress.sig) → Buf (Elt Bits) ℓ) : Prop :=
  True

def Pre_CompressIdeal (m : (ℓ : Loc Cert.CompressIdeal.nD Cert.CompressIdeal.τ Cert.CompressIdeal.sig) → Buf (Elt Ideal) ℓ) : Prop :=
  True

def Pre_CompressRefIdeal (m : (ℓ : Loc Cert.CompressRefIdeal.nD Cert.CompressRefIdeal.τ Cert.CompressRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_PostMlp [hPostMlp : Cert.PostMlp.Facts] : Prop :=
  ∀ (m : (ℓ : Loc Cert.PostMlp.nD Cert.PostMlp.τ Cert.PostMlp.sig) → Buf (Elt Bits) ℓ) (g : Dev Cert.PostMlp.nD → PrngReg), Pre_PostMlp m →
    θ_run (Cert.PostMlp.defs (F := Bits)) (onTc (τ := Cert.PostMlp.τ) (Cert.PostMlp.main (F := Bits))) ⟨m, fun _ => 0, g⟩ (fun r => (∀ c : Dev Cert.PostMlp.nD,
      r.2.mem ((c.tc : Thread Cert.PostMlp.nD Cert.PostMlp.τ).loc Cert.PostMlp.main_arg0) = m ((c.tc : Thread Cert.PostMlp.nD Cert.PostMlp.τ).loc Cert.PostMlp.main_arg0)
      ∧ r.2.mem ((c.tc : Thread Cert.PostMlp.nD Cert.PostMlp.τ).loc Cert.PostMlp.main_arg1) = m ((c.tc : Thread Cert.PostMlp.nD Cert.PostMlp.τ).loc Cert.PostMlp.main_arg1)
      ∧ r.2.mem ((c.tc : Thread Cert.PostMlp.nD Cert.PostMlp.τ).loc Cert.PostMlp.main_arg2) = m ((c.tc : Thread Cert.PostMlp.nD Cert.PostMlp.τ).loc Cert.PostMlp.main_arg2))
      ∧ r.2.sem = fun _ => 0)

def quiescent_PostMlpIdeal [hPostMlpIdeal : Cert.PostMlpIdeal.Facts] : Prop :=
  ∀ (m : (ℓ : Loc Cert.PostMlpIdeal.nD Cert.PostMlpIdeal.τ Cert.PostMlpIdeal.sig) → Buf (Elt Ideal) ℓ) (g : Dev Cert.PostMlpIdeal.nD → PrngReg), Pre_PostMlpIdeal m →
    θ_run (Cert.PostMlpIdeal.defs (F := Ideal)) (onTc (τ := Cert.PostMlpIdeal.τ) (Cert.PostMlpIdeal.main (F := Ideal))) ⟨m, fun _ => 0, g⟩ (fun r => (∀ c : Dev Cert.PostMlpIdeal.nD,
      r.2.mem ((c.tc : Thread Cert.PostMlpIdeal.nD Cert.PostMlpIdeal.τ).loc Cert.PostMlpIdeal.main_arg0) = m ((c.tc : Thread Cert.PostMlpIdeal.nD Cert.PostMlpIdeal.τ).loc Cert.PostMlpIdeal.main_arg0)
      ∧ r.2.mem ((c.tc : Thread Cert.PostMlpIdeal.nD Cert.PostMlpIdeal.τ).loc Cert.PostMlpIdeal.main_arg1) = m ((c.tc : Thread Cert.PostMlpIdeal.nD Cert.PostMlpIdeal.τ).loc Cert.PostMlpIdeal.main_arg1)
      ∧ r.2.mem ((c.tc : Thread Cert.PostMlpIdeal.nD Cert.PostMlpIdeal.τ).loc Cert.PostMlpIdeal.main_arg2) = m ((c.tc : Thread Cert.PostMlpIdeal.nD Cert.PostMlpIdeal.τ).loc Cert.PostMlpIdeal.main_arg2))
      ∧ r.2.sem = fun _ => 0)

def quiescent_PostMlpRefIdeal [hPostMlpRefIdeal : Cert.PostMlpRefIdeal.Facts] : Prop :=
  ∀ (m : (ℓ : Loc Cert.PostMlpRefIdeal.nD Cert.PostMlpRefIdeal.τ Cert.PostMlpRefIdeal.sig) → Buf (Elt Ideal) ℓ) (g : Dev Cert.PostMlpRefIdeal.nD → PrngReg), Pre_PostMlpRefIdeal m →
    θ_run (Cert.PostMlpRefIdeal.defs (F := Ideal)) (onTc (τ := Cert.PostMlpRefIdeal.τ) (Cert.PostMlpRefIdeal.main (F := Ideal))) ⟨m, fun _ => 0, g⟩ (fun r => (∀ c : Dev Cert.PostMlpRefIdeal.nD,
      r.2.mem ((c.tc : Thread Cert.PostMlpRefIdeal.nD Cert.PostMlpRefIdeal.τ).loc Cert.PostMlpRefIdeal.main_arg0) = m ((c.tc : Thread Cert.PostMlpRefIdeal.nD Cert.PostMlpRefIdeal.τ).loc Cert.PostMlpRefIdeal.main_arg0)
      ∧ r.2.mem ((c.tc : Thread Cert.PostMlpRefIdeal.nD Cert.PostMlpRefIdeal.τ).loc Cert.PostMlpRefIdeal.main_arg1) = m ((c.tc : Thread Cert.PostMlpRefIdeal.nD Cert.PostMlpRefIdeal.τ).loc Cert.PostMlpRefIdeal.main_arg1)
      ∧ r.2.mem ((c.tc : Thread Cert.PostMlpRefIdeal.nD Cert.PostMlpRefIdeal.τ).loc Cert.PostMlpRefIdeal.main_arg2) = m ((c.tc : Thread Cert.PostMlpRefIdeal.nD Cert.PostMlpRefIdeal.τ).loc Cert.PostMlpRefIdeal.main_arg2))
      ∧ r.2.sem = fun _ => 0)

def quiescent_Compress [hCompress : Cert.Compress.Facts] : Prop :=
  ∀ (m : (ℓ : Loc Cert.Compress.nD Cert.Compress.τ Cert.Compress.sig) → Buf (Elt Bits) ℓ) (g : Dev Cert.Compress.nD → PrngReg), Pre_Compress m →
    θ_run (Cert.Compress.defs (F := Bits)) (onTc (τ := Cert.Compress.τ) (Cert.Compress.main (F := Bits))) ⟨m, fun _ => 0, g⟩ (fun r => (∀ c : Dev Cert.Compress.nD,
      r.2.mem ((c.tc : Thread Cert.Compress.nD Cert.Compress.τ).loc Cert.Compress.main_arg0) = m ((c.tc : Thread Cert.Compress.nD Cert.Compress.τ).loc Cert.Compress.main_arg0)
      ∧ r.2.mem ((c.tc : Thread Cert.Compress.nD Cert.Compress.τ).loc Cert.Compress.main_arg1) = m ((c.tc : Thread Cert.Compress.nD Cert.Compress.τ).loc Cert.Compress.main_arg1)
      ∧ r.2.mem ((c.tc : Thread Cert.Compress.nD Cert.Compress.τ).loc Cert.Compress.main_arg2) = m ((c.tc : Thread Cert.Compress.nD Cert.Compress.τ).loc Cert.Compress.main_arg2)
      ∧ r.2.mem ((c.tc : Thread Cert.Compress.nD Cert.Compress.τ).loc Cert.Compress.main_arg3) = m ((c.tc : Thread Cert.Compress.nD Cert.Compress.τ).loc Cert.Compress.main_arg3)
      ∧ r.2.mem ((c.tc : Thread Cert.Compress.nD Cert.Compress.τ).loc Cert.Compress.main_arg4) = m ((c.tc : Thread Cert.Compress.nD Cert.Compress.τ).loc Cert.Compress.main_arg4)
      ∧ r.2.mem ((c.tc : Thread Cert.Compress.nD Cert.Compress.τ).loc Cert.Compress.main_arg5) = m ((c.tc : Thread Cert.Compress.nD Cert.Compress.τ).loc Cert.Compress.main_arg5)
      ∧ r.2.mem ((c.tc : Thread Cert.Compress.nD Cert.Compress.τ).loc Cert.Compress.main_arg6) = m ((c.tc : Thread Cert.Compress.nD Cert.Compress.τ).loc Cert.Compress.main_arg6)
      ∧ r.2.mem ((c.tc : Thread Cert.Compress.nD Cert.Compress.τ).loc Cert.Compress.main_arg7) = m ((c.tc : Thread Cert.Compress.nD Cert.Compress.τ).loc Cert.Compress.main_arg7))
      ∧ r.2.sem = fun _ => 0)

def quiescent_CompressIdeal [hCompressIdeal : Cert.CompressIdeal.Facts] : Prop :=
  ∀ (m : (ℓ : Loc Cert.CompressIdeal.nD Cert.CompressIdeal.τ Cert.CompressIdeal.sig) → Buf (Elt Ideal) ℓ) (g : Dev Cert.CompressIdeal.nD → PrngReg), Pre_CompressIdeal m →
    θ_run (Cert.CompressIdeal.defs (F := Ideal)) (onTc (τ := Cert.CompressIdeal.τ) (Cert.CompressIdeal.main (F := Ideal))) ⟨m, fun _ => 0, g⟩ (fun r => (∀ c : Dev Cert.CompressIdeal.nD,
      r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
      ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
      ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
      ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
      ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
      ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
      ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
      ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ r.2.sem = fun _ => 0)

def quiescent_CompressRefIdeal [hCompressRefIdeal : Cert.CompressRefIdeal.Facts] : Prop :=
  ∀ (m : (ℓ : Loc Cert.CompressRefIdeal.nD Cert.CompressRefIdeal.τ Cert.CompressRefIdeal.sig) → Buf (Elt Ideal) ℓ) (g : Dev Cert.CompressRefIdeal.nD → PrngReg), Pre_CompressRefIdeal m →
    θ_run (Cert.CompressRefIdeal.defs (F := Ideal)) (onTc (τ := Cert.CompressRefIdeal.τ) (Cert.CompressRefIdeal.main (F := Ideal))) ⟨m, fun _ => 0, g⟩ (fun r => (∀ c : Dev Cert.CompressRefIdeal.nD,
      r.2.mem ((c.tc : Thread Cert.CompressRefIdeal.nD Cert.CompressRefIdeal.τ).loc Cert.CompressRefIdeal.main_arg0) = m ((c.tc : Thread Cert.CompressRefIdeal.nD Cert.CompressRefIdeal.τ).loc Cert.CompressRefIdeal.main_arg0)
      ∧ r.2.mem ((c.tc : Thread Cert.CompressRefIdeal.nD Cert.CompressRefIdeal.τ).loc Cert.CompressRefIdeal.main_arg1) = m ((c.tc : Thread Cert.CompressRefIdeal.nD Cert.CompressRefIdeal.τ).loc Cert.CompressRefIdeal.main_arg1)
      ∧ r.2.mem ((c.tc : Thread Cert.CompressRefIdeal.nD Cert.CompressRefIdeal.τ).loc Cert.CompressRefIdeal.main_arg2) = m ((c.tc : Thread Cert.CompressRefIdeal.nD Cert.CompressRefIdeal.τ).loc Cert.CompressRefIdeal.main_arg2)
      ∧ r.2.mem ((c.tc : Thread Cert.CompressRefIdeal.nD Cert.CompressRefIdeal.τ).loc Cert.CompressRefIdeal.main_arg3) = m ((c.tc : Thread Cert.CompressRefIdeal.nD Cert.CompressRefIdeal.τ).loc Cert.CompressRefIdeal.main_arg3)
      ∧ r.2.mem ((c.tc : Thread Cert.CompressRefIdeal.nD Cert.CompressRefIdeal.τ).loc Cert.CompressRefIdeal.main_arg4) = m ((c.tc : Thread Cert.CompressRefIdeal.nD Cert.CompressRefIdeal.τ).loc Cert.CompressRefIdeal.main_arg4)
      ∧ r.2.mem ((c.tc : Thread Cert.CompressRefIdeal.nD Cert.CompressRefIdeal.τ).loc Cert.CompressRefIdeal.main_arg5) = m ((c.tc : Thread Cert.CompressRefIdeal.nD Cert.CompressRefIdeal.τ).loc Cert.CompressRefIdeal.main_arg5)
      ∧ r.2.mem ((c.tc : Thread Cert.CompressRefIdeal.nD Cert.CompressRefIdeal.τ).loc Cert.CompressRefIdeal.main_arg6) = m ((c.tc : Thread Cert.CompressRefIdeal.nD Cert.CompressRefIdeal.τ).loc Cert.CompressRefIdeal.main_arg6)
      ∧ r.2.mem ((c.tc : Thread Cert.CompressRefIdeal.nD Cert.CompressRefIdeal.τ).loc Cert.CompressRefIdeal.main_arg7) = m ((c.tc : Thread Cert.CompressRefIdeal.nD Cert.CompressRefIdeal.τ).loc Cert.CompressRefIdeal.main_arg7))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v9_1)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_1) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)) →
    ∃ (v0 : (c : Dev Cert.TailIdeal.nD) → Buf (Elt Ideal) ((c.tc : Thread Cert.TailIdeal.nD Cert.TailIdeal.τ).loc Cert.TailIdeal.main_v12_0)) (v1 : (c : Dev Cert.TailIdeal.nD) → Buf (Elt Ideal) ((c.tc : Thread Cert.TailIdeal.nD Cert.TailIdeal.τ).loc Cert.TailIdeal.main_v14)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v12_0) = v0 c
          ∧ r.2.mem ((c.tc : Thread Cert.TailIdeal.nD Cert.TailIdeal.τ).loc Cert.TailIdeal.main_v14) = v1 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v60) = v0 c
          ∧ r.2.mem ((c.tc : Thread Cert.TailRefIdeal.nD Cert.TailRefIdeal.τ).loc Cert.TailRefIdeal.main_v62) = v1 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_PostMlp_PostMlpIdeal : Prop :=
  True

def algebraic_PostMlpIdeal_PostMlpRefIdeal [hPostMlpIdeal : Cert.PostMlpIdeal.Facts] [hPostMlpRefIdeal : Cert.PostMlpRefIdeal.Facts] : Prop :=
  ∀ (m : (ℓ : Loc Cert.PostMlpIdeal.nD Cert.PostMlpIdeal.τ Cert.PostMlpIdeal.sig) → Buf (Elt Ideal) ℓ) (g : Dev Cert.PostMlpIdeal.nD → PrngReg)
    (m' : (ℓ : Loc Cert.PostMlpRefIdeal.nD Cert.PostMlpRefIdeal.τ Cert.PostMlpRefIdeal.sig) → Buf (Elt Ideal) ℓ) (g' : Dev Cert.PostMlpRefIdeal.nD → PrngReg), Pre_PostMlpIdeal m →
    (∀ c : Dev Cert.PostMlpIdeal.nD,
      m' ((c.tc : Thread Cert.PostMlpRefIdeal.nD Cert.PostMlpRefIdeal.τ).loc Cert.PostMlpRefIdeal.main_arg0) = m ((c.tc : Thread Cert.PostMlpIdeal.nD Cert.PostMlpIdeal.τ).loc Cert.PostMlpIdeal.main_arg0)
      ∧ m' ((c.tc : Thread Cert.PostMlpRefIdeal.nD Cert.PostMlpRefIdeal.τ).loc Cert.PostMlpRefIdeal.main_arg1) = m ((c.tc : Thread Cert.PostMlpIdeal.nD Cert.PostMlpIdeal.τ).loc Cert.PostMlpIdeal.main_arg1)
      ∧ m' ((c.tc : Thread Cert.PostMlpRefIdeal.nD Cert.PostMlpRefIdeal.τ).loc Cert.PostMlpRefIdeal.main_arg2) = m ((c.tc : Thread Cert.PostMlpIdeal.nD Cert.PostMlpIdeal.τ).loc Cert.PostMlpIdeal.main_arg2)) →
    ∃ (v0 : (c : Dev Cert.PostMlpIdeal.nD) → Buf (Elt Ideal) ((c.tc : Thread Cert.PostMlpIdeal.nD Cert.PostMlpIdeal.τ).loc Cert.PostMlpIdeal.main_v3)),
      θ_run (Cert.PostMlpIdeal.defs (F := Ideal)) (onTc (τ := Cert.PostMlpIdeal.τ) (Cert.PostMlpIdeal.main (F := Ideal))) ⟨m, fun _ => 0, g⟩ (fun r => ∀ c : Dev Cert.PostMlpIdeal.nD,
          r.2.mem ((c.tc : Thread Cert.PostMlpIdeal.nD Cert.PostMlpIdeal.τ).loc Cert.PostMlpIdeal.main_v3) = v0 c
          ∧ r.2.mem ((c.tc : Thread Cert.PostMlpIdeal.nD Cert.PostMlpIdeal.τ).loc Cert.PostMlpIdeal.main_arg0) = m ((c.tc : Thread Cert.PostMlpIdeal.nD Cert.PostMlpIdeal.τ).loc Cert.PostMlpIdeal.main_arg0)
          ∧ r.2.mem ((c.tc : Thread Cert.PostMlpIdeal.nD Cert.PostMlpIdeal.τ).loc Cert.PostMlpIdeal.main_arg1) = m ((c.tc : Thread Cert.PostMlpIdeal.nD Cert.PostMlpIdeal.τ).loc Cert.PostMlpIdeal.main_arg1)
          ∧ r.2.mem ((c.tc : Thread Cert.PostMlpIdeal.nD Cert.PostMlpIdeal.τ).loc Cert.PostMlpIdeal.main_arg2) = m ((c.tc : Thread Cert.PostMlpIdeal.nD Cert.PostMlpIdeal.τ).loc Cert.PostMlpIdeal.main_arg2))
      ∧ θ_run (Cert.PostMlpRefIdeal.defs (F := Ideal)) (onTc (τ := Cert.PostMlpRefIdeal.τ) (Cert.PostMlpRefIdeal.main (F := Ideal))) ⟨m', fun _ => 0, g'⟩ (fun r => ∀ c : Dev Cert.PostMlpRefIdeal.nD,
          r.2.mem ((c.tc : Thread Cert.PostMlpRefIdeal.nD Cert.PostMlpRefIdeal.τ).loc Cert.PostMlpRefIdeal.main_v16) = v0 c
          ∧ r.2.mem ((c.tc : Thread Cert.PostMlpRefIdeal.nD Cert.PostMlpRefIdeal.τ).loc Cert.PostMlpRefIdeal.main_arg0) = m' ((c.tc : Thread Cert.PostMlpRefIdeal.nD Cert.PostMlpRefIdeal.τ).loc Cert.PostMlpRefIdeal.main_arg0)
          ∧ r.2.mem ((c.tc : Thread Cert.PostMlpRefIdeal.nD Cert.PostMlpRefIdeal.τ).loc Cert.PostMlpRefIdeal.main_arg1) = m' ((c.tc : Thread Cert.PostMlpRefIdeal.nD Cert.PostMlpRefIdeal.τ).loc Cert.PostMlpRefIdeal.main_arg1)
          ∧ r.2.mem ((c.tc : Thread Cert.PostMlpRefIdeal.nD Cert.PostMlpRefIdeal.τ).loc Cert.PostMlpRefIdeal.main_arg2) = m' ((c.tc : Thread Cert.PostMlpRefIdeal.nD Cert.PostMlpRefIdeal.τ).loc Cert.PostMlpRefIdeal.main_arg2))

def preserves_Compress_CompressIdeal : Prop :=
  IdealRules.bf16_pair.BufferStatement Cert.CompressIdeal.S1024x2x128 Cert.CompressIdeal.S1024x1x128
  ∧ IdealRules.bf16_pair.Statement Cert.CompressIdeal.S2048x128 Cert.CompressIdeal.S1024x128
  ∧ IdealRules.bf16_pair.Statement Cert.CompressIdeal.S1024x2x128 Cert.CompressIdeal.S1024x1x128
  ∧ IdealRules.bf16_pair.Statement Cert.CompressIdeal.S128x2x128 Cert.CompressIdeal.S128x1x128
  ∧ IdealRules.bf16_pair.Statement Cert.CompressIdeal.S256x128 Cert.CompressIdeal.S128x128

def algebraic_CompressIdeal_CompressRefIdeal [hCompressIdeal : Cert.CompressIdeal.Facts] [hCompressRefIdeal : Cert.CompressRefIdeal.Facts] : Prop :=
  ∀ (m : (ℓ : Loc Cert.CompressIdeal.nD Cert.CompressIdeal.τ Cert.CompressIdeal.sig) → Buf (Elt Ideal) ℓ) (g : Dev Cert.CompressIdeal.nD → PrngReg)
    (m' : (ℓ : Loc Cert.CompressRefIdeal.nD Cert.CompressRefIdeal.τ Cert.CompressRefIdeal.sig) → Buf (Elt Ideal) ℓ) (g' : Dev Cert.CompressRefIdeal.nD → PrngReg), Pre_CompressIdeal m →
    (∀ c : Dev Cert.CompressIdeal.nD,
      m' ((c.tc : Thread Cert.CompressRefIdeal.nD Cert.CompressRefIdeal.τ).loc Cert.CompressRefIdeal.main_arg0) = m ((c.tc : Thread Cert.CompressIdeal.nD Cert.CompressIdeal.τ).loc Cert.CompressIdeal.main_arg0)
      ∧ m' ((c.tc : Thread Cert.CompressRefIdeal.nD Cert.CompressRefIdeal.τ).loc Cert.CompressRefIdeal.main_arg1) = m ((c.tc : Thread Cert.CompressIdeal.nD Cert.CompressIdeal.τ).loc Cert.CompressIdeal.main_arg1)
      ∧ m' ((c.tc : Thread Cert.CompressRefIdeal.nD Cert.CompressRefIdeal.τ).loc Cert.CompressRefIdeal.main_arg2) = m ((c.tc : Thread Cert.CompressIdeal.nD Cert.CompressIdeal.τ).loc Cert.CompressIdeal.main_arg2)
      ∧ m' ((c.tc : Thread Cert.CompressRefIdeal.nD Cert.CompressRefIdeal.τ).loc Cert.CompressRefIdeal.main_arg3) = m ((c.tc : Thread Cert.CompressIdeal.nD Cert.CompressIdeal.τ).loc Cert.CompressIdeal.main_arg3)
      ∧ m' ((c.tc : Thread Cert.CompressRefIdeal.nD Cert.CompressRefIdeal.τ).loc Cert.CompressRefIdeal.main_arg4) = m ((c.tc : Thread Cert.CompressIdeal.nD Cert.CompressIdeal.τ).loc Cert.CompressIdeal.main_arg4)
      ∧ m' ((c.tc : Thread Cert.CompressRefIdeal.nD Cert.CompressRefIdeal.τ).loc Cert.CompressRefIdeal.main_arg5) = m ((c.tc : Thread Cert.CompressIdeal.nD Cert.CompressIdeal.τ).loc Cert.CompressIdeal.main_arg5)
      ∧ m' ((c.tc : Thread Cert.CompressRefIdeal.nD Cert.CompressRefIdeal.τ).loc Cert.CompressRefIdeal.main_arg6) = m ((c.tc : Thread Cert.CompressIdeal.nD Cert.CompressIdeal.τ).loc Cert.CompressIdeal.main_arg6)
      ∧ m' ((c.tc : Thread Cert.CompressRefIdeal.nD Cert.CompressRefIdeal.τ).loc Cert.CompressRefIdeal.main_arg7) = m ((c.tc : Thread Cert.CompressIdeal.nD Cert.CompressIdeal.τ).loc Cert.CompressIdeal.main_arg7)) →
    ∃ (v0 : (c : Dev Cert.CompressIdeal.nD) → Buf (Elt Ideal) ((c.tc : Thread Cert.CompressIdeal.nD Cert.CompressIdeal.τ).loc Cert.CompressIdeal.main_v15)) (v1 : (c : Dev Cert.CompressIdeal.nD) → Buf (Elt Ideal) ((c.tc : Thread Cert.CompressIdeal.nD Cert.CompressIdeal.τ).loc Cert.CompressIdeal.main_v16)),
      θ_run (Cert.CompressIdeal.defs (F := Ideal)) (onTc (τ := Cert.CompressIdeal.τ) (Cert.CompressIdeal.main (F := Ideal))) ⟨m, fun _ => 0, g⟩ (fun r => ∀ c : Dev Cert.CompressIdeal.nD,
          r.2.mem ((c.tc : Thread Cert.CompressIdeal.nD Cert.CompressIdeal.τ).loc Cert.CompressIdeal.main_v15) = v0 c
          ∧ r.2.mem ((c.tc : Thread Cert.CompressIdeal.nD Cert.CompressIdeal.τ).loc Cert.CompressIdeal.main_v16) = v1 c
          ∧ r.2.mem ((c.tc : Thread Cert.CompressIdeal.nD Cert.CompressIdeal.τ).loc Cert.CompressIdeal.main_arg0) = m ((c.tc : Thread Cert.CompressIdeal.nD Cert.CompressIdeal.τ).loc Cert.CompressIdeal.main_arg0)
          ∧ r.2.mem ((c.tc : Thread Cert.CompressIdeal.nD Cert.CompressIdeal.τ).loc Cert.CompressIdeal.main_arg1) = m ((c.tc : Thread Cert.CompressIdeal.nD Cert.CompressIdeal.τ).loc Cert.CompressIdeal.main_arg1)
          ∧ r.2.mem ((c.tc : Thread Cert.CompressIdeal.nD Cert.CompressIdeal.τ).loc Cert.CompressIdeal.main_arg2) = m ((c.tc : Thread Cert.CompressIdeal.nD Cert.CompressIdeal.τ).loc Cert.CompressIdeal.main_arg2)
          ∧ r.2.mem ((c.tc : Thread Cert.CompressIdeal.nD Cert.CompressIdeal.τ).loc Cert.CompressIdeal.main_arg3) = m ((c.tc : Thread Cert.CompressIdeal.nD Cert.CompressIdeal.τ).loc Cert.CompressIdeal.main_arg3)
          ∧ r.2.mem ((c.tc : Thread Cert.CompressIdeal.nD Cert.CompressIdeal.τ).loc Cert.CompressIdeal.main_arg4) = m ((c.tc : Thread Cert.CompressIdeal.nD Cert.CompressIdeal.τ).loc Cert.CompressIdeal.main_arg4)
          ∧ r.2.mem ((c.tc : Thread Cert.CompressIdeal.nD Cert.CompressIdeal.τ).loc Cert.CompressIdeal.main_arg5) = m ((c.tc : Thread Cert.CompressIdeal.nD Cert.CompressIdeal.τ).loc Cert.CompressIdeal.main_arg5)
          ∧ r.2.mem ((c.tc : Thread Cert.CompressIdeal.nD Cert.CompressIdeal.τ).loc Cert.CompressIdeal.main_arg6) = m ((c.tc : Thread Cert.CompressIdeal.nD Cert.CompressIdeal.τ).loc Cert.CompressIdeal.main_arg6)
          ∧ r.2.mem ((c.tc : Thread Cert.CompressIdeal.nD Cert.CompressIdeal.τ).loc Cert.CompressIdeal.main_arg7) = m ((c.tc : Thread Cert.CompressIdeal.nD Cert.CompressIdeal.τ).loc Cert.CompressIdeal.main_arg7))
      ∧ θ_run (Cert.CompressRefIdeal.defs (F := Ideal)) (onTc (τ := Cert.CompressRefIdeal.τ) (Cert.CompressRefIdeal.main (F := Ideal))) ⟨m', fun _ => 0, g'⟩ (fun r => ∀ c : Dev Cert.CompressRefIdeal.nD,
          r.2.mem ((c.tc : Thread Cert.CompressRefIdeal.nD Cert.CompressRefIdeal.τ).loc Cert.CompressRefIdeal.main_v55) = v0 c
          ∧ r.2.mem ((c.tc : Thread Cert.CompressRefIdeal.nD Cert.CompressRefIdeal.τ).loc Cert.CompressRefIdeal.main_v57) = v1 c
          ∧ r.2.mem ((c.tc : Thread Cert.CompressRefIdeal.nD Cert.CompressRefIdeal.τ).loc Cert.CompressRefIdeal.main_arg0) = m' ((c.tc : Thread Cert.CompressRefIdeal.nD Cert.CompressRefIdeal.τ).loc Cert.CompressRefIdeal.main_arg0)
          ∧ r.2.mem ((c.tc : Thread Cert.CompressRefIdeal.nD Cert.CompressRefIdeal.τ).loc Cert.CompressRefIdeal.main_arg1) = m' ((c.tc : Thread Cert.CompressRefIdeal.nD Cert.CompressRefIdeal.τ).loc Cert.CompressRefIdeal.main_arg1)
          ∧ r.2.mem ((c.tc : Thread Cert.CompressRefIdeal.nD Cert.CompressRefIdeal.τ).loc Cert.CompressRefIdeal.main_arg2) = m' ((c.tc : Thread Cert.CompressRefIdeal.nD Cert.CompressRefIdeal.τ).loc Cert.CompressRefIdeal.main_arg2)
          ∧ r.2.mem ((c.tc : Thread Cert.CompressRefIdeal.nD Cert.CompressRefIdeal.τ).loc Cert.CompressRefIdeal.main_arg3) = m' ((c.tc : Thread Cert.CompressRefIdeal.nD Cert.CompressRefIdeal.τ).loc Cert.CompressRefIdeal.main_arg3)
          ∧ r.2.mem ((c.tc : Thread Cert.CompressRefIdeal.nD Cert.CompressRefIdeal.τ).loc Cert.CompressRefIdeal.main_arg4) = m' ((c.tc : Thread Cert.CompressRefIdeal.nD Cert.CompressRefIdeal.τ).loc Cert.CompressRefIdeal.main_arg4)
          ∧ r.2.mem ((c.tc : Thread Cert.CompressRefIdeal.nD Cert.CompressRefIdeal.τ).loc Cert.CompressRefIdeal.main_arg5) = m' ((c.tc : Thread Cert.CompressRefIdeal.nD Cert.CompressRefIdeal.τ).loc Cert.CompressRefIdeal.main_arg5)
          ∧ r.2.mem ((c.tc : Thread Cert.CompressRefIdeal.nD Cert.CompressRefIdeal.τ).loc Cert.CompressRefIdeal.main_arg6) = m' ((c.tc : Thread Cert.CompressRefIdeal.nD Cert.CompressRefIdeal.τ).loc Cert.CompressRefIdeal.main_arg6)
          ∧ r.2.mem ((c.tc : Thread Cert.CompressRefIdeal.nD Cert.CompressRefIdeal.τ).loc Cert.CompressRefIdeal.main_arg7) = m' ((c.tc : Thread Cert.CompressRefIdeal.nD Cert.CompressRefIdeal.τ).loc Cert.CompressRefIdeal.main_arg7))

def preserves_Attn_AttnIdeal : Prop :=
  IdealRules.named_const.Statement Cert.AttnIdeal.κ "masked" .f32 0xF149F2CA#32 ⊥
  ∧ IdealRules.named_const.Statement Cert.AttnIdeal.κ "half_masked" .f32 0xF0C9F2CA#32 ⊥

def Claim : Prop :=
  ∃ (hKernel : Cert.Kernel.Facts) (hKernelIdeal : Cert.KernelIdeal.Facts) (hReferenceIdeal : Cert.ReferenceIdeal.Facts) (hTail : Cert.Tail.Facts) (hTailIdeal : Cert.TailIdeal.Facts) (hTailRefIdeal : Cert.TailRefIdeal.Facts) (hDown : Cert.Down.Facts) (hDownIdeal : Cert.DownIdeal.Facts) (hDownRefIdeal : Cert.DownRefIdeal.Facts) (hPostMlp : Cert.PostMlp.Facts) (hPostMlpIdeal : Cert.PostMlpIdeal.Facts) (hPostMlpRefIdeal : Cert.PostMlpRefIdeal.Facts) (hCompress : Cert.Compress.Facts) (hCompressIdeal : Cert.CompressIdeal.Facts) (hCompressRefIdeal : Cert.CompressRefIdeal.Facts) (hAttn : Cert.Attn.Facts) (hAttnIdeal : Cert.AttnIdeal.Facts) (hAttnRefIdeal : Cert.AttnRefIdeal.Facts),
    quiescent_Kernel (hKernel := hKernel)
    ∧ quiescent_KernelIdeal (hKernelIdeal := hKernelIdeal)
    ∧ quiescent_ReferenceIdeal (hReferenceIdeal := hReferenceIdeal)
    ∧ quiescent_Tail (hTail := hTail)
    ∧ quiescent_TailIdeal (hTailIdeal := hTailIdeal)
    ∧ quiescent_TailRefIdeal (hTailRefIdeal := hTailRefIdeal)
    ∧ quiescent_Down (hDown := hDown)
    ∧ quiescent_DownIdeal (hDownIdeal := hDownIdeal)
    ∧ quiescent_DownRefIdeal (hDownRefIdeal := hDownRefIdeal)
    ∧ quiescent_PostMlp (hPostMlp := hPostMlp)
    ∧ quiescent_PostMlpIdeal (hPostMlpIdeal := hPostMlpIdeal)
    ∧ quiescent_PostMlpRefIdeal (hPostMlpRefIdeal := hPostMlpRefIdeal)
    ∧ quiescent_Compress (hCompress := hCompress)
    ∧ quiescent_CompressIdeal (hCompressIdeal := hCompressIdeal)
    ∧ quiescent_CompressRefIdeal (hCompressRefIdeal := hCompressRefIdeal)
    ∧ quiescent_Attn (hAttn := hAttn)
    ∧ quiescent_AttnIdeal (hAttnIdeal := hAttnIdeal)
    ∧ quiescent_AttnRefIdeal (hAttnRefIdeal := hAttnRefIdeal)
    ∧ preserves_Kernel_KernelIdeal
    ∧ algebraic_KernelIdeal_ReferenceIdeal (hKernelIdeal := hKernelIdeal) (hReferenceIdeal := hReferenceIdeal)
    ∧ preserves_Tail_TailIdeal
    ∧ algebraic_TailIdeal_TailRefIdeal (hTailIdeal := hTailIdeal) (hTailRefIdeal := hTailRefIdeal)
    ∧ preserves_Down_DownIdeal
    ∧ algebraic_DownIdeal_DownRefIdeal (hDownIdeal := hDownIdeal) (hDownRefIdeal := hDownRefIdeal)
    ∧ preserves_PostMlp_PostMlpIdeal
    ∧ algebraic_PostMlpIdeal_PostMlpRefIdeal (hPostMlpIdeal := hPostMlpIdeal) (hPostMlpRefIdeal := hPostMlpRefIdeal)
    ∧ preserves_Compress_CompressIdeal
    ∧ algebraic_CompressIdeal_CompressRefIdeal (hCompressIdeal := hCompressIdeal) (hCompressRefIdeal := hCompressRefIdeal)
    ∧ preserves_Attn_AttnIdeal
-- ==== Kernel.lean ====
abbrev S4x2048x4096 : Shape := ⟨3, ![4, 2048, 4096]⟩
abbrev S1x4096 : Shape := ⟨2, ![1, 4096]⟩
abbrev S1x4096x17456 : Shape := ⟨3, ![1, 4096, 17456]⟩
abbrev S8192x4096 : Shape := ⟨2, ![8192, 4096]⟩
abbrev S4096x17456 : Shape := ⟨2, ![4096, 17456]⟩
abbrev S17456x4096 : Shape := ⟨2, ![17456, 4096]⟩
abbrev S_ : Shape := ⟨0, ![]⟩
abbrev S9216 : Shape := ⟨1, ![9216]⟩
abbrev S1 : Shape := ⟨1, ![1]⟩
abbrev S2048 : Shape := ⟨1, ![2048]⟩
abbrev S4096 : Shape := ⟨1, ![4096]⟩
abbrev S8192x128 : Shape := ⟨2, ![8192, 128]⟩
abbrev S512x4096 : Shape := ⟨2, ![512, 4096]⟩
abbrev S128x4096 : Shape := ⟨2, ![128, 4096]⟩
abbrev S512x128 : Shape := ⟨2, ![512, 128]⟩
abbrev S512 : Shape := ⟨1, ![512]⟩
abbrev S512x1 : Shape := ⟨2, ![512, 1]⟩
abbrev S1x9216 : Shape := ⟨2, ![1, 9216]⟩
abbrev S8192x9216 : Shape := ⟨2, ![8192, 9216]⟩
abbrev S2048x4096 : Shape := ⟨2, ![2048, 4096]⟩
abbrev S1x512 : Shape := ⟨2, ![1, 512]⟩
abbrev S2048x512 : Shape := ⟨2, ![2048, 512]⟩
abbrev S8192x8192 : Shape := ⟨2, ![8192, 8192]⟩

abbrev nBuf : Space → Nat
  | .hbm => 20
  | .vmem => 20
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S1x4096x17456, .f32⟩
  | .hbm, ⟨3, _⟩ => ⟨S8192x4096, .f32⟩
  | .hbm, ⟨4, _⟩ => ⟨S4096x17456, .f32⟩
  | .hbm, ⟨5, _⟩ => ⟨S17456x4096, .f32⟩
  | .hbm, ⟨6, _⟩ => ⟨S_, .f32⟩
  | .hbm, ⟨7, _⟩ => ⟨S9216, .f32⟩
  | .hbm, ⟨8, _⟩ => ⟨S_, .i32⟩
  | .hbm, ⟨9, _⟩ => ⟨S1, .i32⟩
  | .hbm, ⟨10, _⟩ => ⟨S_, .f32⟩
  | .hbm, ⟨11, _⟩ => ⟨S2048, .f32⟩
  | .hbm, ⟨12, _⟩ => ⟨S9216, .f32⟩
  | .hbm, ⟨13, _⟩ => ⟨S4096, .f32⟩
  | .hbm, ⟨14, _⟩ => ⟨S1x4096, .f32⟩
  | .hbm, ⟨15, _⟩ => ⟨S8192x4096, .bf16⟩
  | .hbm, ⟨16, _⟩ => ⟨S8192x128, .f32⟩
  | .hbm, ⟨17, _⟩ => ⟨S1x9216, .f32⟩
  | .hbm, ⟨18, _⟩ => ⟨S8192x9216, .bf16⟩
  | .hbm, ⟨19, _⟩ => ⟨S8192x8192, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S128x4096, .f32⟩
  | .local _ .vmem, ⟨4, _⟩ => ⟨S512x4096, .bf16⟩
  | .local _ .vmem, ⟨5, _⟩ => ⟨S512x4096, .bf16⟩
  | .local _ .vmem, ⟨6, _⟩ => ⟨S512x128, .f32⟩
  | .local _ .vmem, ⟨7, _⟩ => ⟨S512x128, .f32⟩
  | .local _ .vmem, ⟨8, _⟩ => ⟨S2048x4096, .bf16⟩
  | .local _ .vmem, ⟨9, _⟩ => ⟨S512x4096, .f32⟩
  | .local _ .vmem, ⟨10, _⟩ => ⟨S512x4096, .f32⟩
  | .local _ .vmem, ⟨11, _⟩ => ⟨S1x512, .f32⟩
  | .local _ .vmem, ⟨12, _⟩ => ⟨S1x512, .f32⟩
  | .local _ .vmem, ⟨13, _⟩ => ⟨S2048x512, .bf16⟩
  | .local _ .vmem, ⟨14, _⟩ => ⟨S2048x512, .bf16⟩
  | .local _ .vmem, ⟨15, _⟩ => ⟨S2048x4096, .bf16⟩
  | .local _ .vmem, ⟨16, _⟩ => ⟨S512x4096, .f32⟩
  | .local _ .vmem, ⟨17, _⟩ => ⟨S512x4096, .f32⟩
  | .local _ .vmem, ⟨18, _⟩ => ⟨S2048x512, .bf16⟩
  | .local _ .vmem, ⟨19, _⟩ => ⟨S2048x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem1_0 : DmaSem sig := 16
abbrev cc2_sem1_1 : DmaSem sig := 17
abbrev cc2_sem2_0 : DmaSem sig := 18
abbrev cc2_sem2_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c9216_i32 : BitVec 32 := 9216#32
  let c0_i32 : BitVec 32 := 0#32
  let c0_i32_0 : BitVec 32 := 0#32
  ![c9216_i32.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![4, 18], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c0_i32 : BitVec 32 := 0#32
  let v1 : BitVec 32 := Scalar.addi c0_i32 v0
  let c8_i32 : BitVec 32 := 8#32
  let v2 : BitVec 32 := Scalar.muli v1 c8_i32
  let c0_i32_0 : BitVec 32 := 0#32
  let c0_i32_1 : BitVec 32 := 0#32
  ![v2.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S2048x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1158_i32 : BitVec 32 := 1158#32
  let v1 : BitVec 32 := Scalar.addi c1158_i32 v0
  let c8_i32 : BitVec 32 := 8#32
  let v2 : BitVec 32 := Scalar.muli v1 c8_i32
  let c0_i32 : BitVec 32 := 0#32
  let c0_i32_0 : BitVec 32 := 0#32
  ![v2.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S2048x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S512x4096 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== ReferenceIdeal.lean ====
abbrev S4x2048x4096 : Shape := ⟨3, ![4, 2048, 4096]⟩
abbrev S1x4096 : Shape := ⟨2, ![1, 4096]⟩
abbrev S1x4096x17456 : Shape := ⟨3, ![1, 4096, 17456]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4096x17456 : Shape := ⟨2, ![4096, 17456]⟩
abbrev S4x2048x17456 : Shape := ⟨3, ![4, 2048, 17456]⟩
abbrev S4x2048x2048 : Shape := ⟨3, ![4, 2048, 2048]⟩
abbrev S4x2048x3072 : Shape := ⟨3, ![4, 2048, 3072]⟩
abbrev S4x2048x48 : Shape := ⟨3, ![4, 2048, 48]⟩
abbrev S4x2048x6144 : Shape := ⟨3, ![4, 2048, 6144]⟩
abbrev S4x2048x9216 : Shape := ⟨3, ![4, 2048, 9216]⟩
abbrev S4x2048x80 : Shape := ⟨3, ![4, 2048, 80]⟩
abbrev S4x2048x128 : Shape := ⟨3, ![4, 2048, 128]⟩
abbrev S4x2048x8192 : Shape := ⟨3, ![4, 2048, 8192]⟩
abbrev S8192x128 : Shape := ⟨2, ![8192, 128]⟩
abbrev S8192x9216 : Shape := ⟨2, ![8192, 9216]⟩
abbrev S8192x8192 : Shape := ⟨2, ![8192, 8192]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S1x4096x17456, .f32⟩
  | .hbm, ⟨3, _⟩ => ⟨S4096, .f32⟩
  | .hbm, ⟨4, _⟩ => ⟨S4x2048x4096, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | .hbm, ⟨20, _⟩ => ⟨S4096x17456, .f32⟩
  | .hbm, ⟨21, _⟩ => ⟨S4x2048x17456, .f32⟩
  | .hbm, ⟨22, _⟩ => ⟨S4x2048x4096, .f32⟩
  | .hbm, ⟨23, _⟩ => ⟨S4x2048x2048, .f32⟩
  | .hbm, ⟨24, _⟩ => ⟨S4x2048x3072, .f32⟩
  | .hbm, ⟨25, _⟩ => ⟨S4x2048x48, .f32⟩
  | .hbm, ⟨26, _⟩ => ⟨S4x2048x4096, .f32⟩
  | .hbm, ⟨27, _⟩ => ⟨S4x2048x4096, .f32⟩
  | .hbm, ⟨28, _⟩ => ⟨S_, .f32⟩
  | .hbm, ⟨29, _⟩ => ⟨S4x2048x2048, .f32⟩
  | .hbm, ⟨30, _⟩ => ⟨S4x2048x2048, .f32⟩
  | .hbm, ⟨31, _⟩ => ⟨S4x2048x6144, .f32⟩
  | .hbm, ⟨32, _⟩ => ⟨S4x2048x9216, .f32⟩
  | .hbm, ⟨33, _⟩ => ⟨S4x2048x80, .f32⟩
  | .hbm, ⟨34, _⟩ => ⟨S4x2048x128, .f32⟩
  | .hbm, ⟨35, _⟩ => ⟨S4x2048x8192, .f32⟩
  | .hbm, ⟨36, _⟩ => ⟨S8192x128, .f32⟩
  | .hbm, ⟨37, _⟩ => ⟨S4x2048x9216, .bf16⟩
  | .hbm, ⟨38, _⟩ => ⟨S8192x9216, .bf16⟩
  | .hbm, ⟨39, _⟩ => ⟨S4x2048x8192, .bf16⟩
  | .hbm, ⟨40, _⟩ => ⟨S8192x8192, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Tail.lean ====
abbrev S4x2048x4096 : Shape := ⟨3, ![4, 2048, 4096]⟩
abbrev S4x2048x2048 : Shape := ⟨3, ![4, 2048, 2048]⟩
abbrev S8192x8192 : Shape := ⟨2, ![8192, 8192]⟩
abbrev S1x2048x4096 : Shape := ⟨3, ![1, 2048, 4096]⟩
abbrev S1x4096x4096 : Shape := ⟨3, ![1, 4096, 4096]⟩
abbrev S1x4096 : Shape := ⟨2, ![1, 4096]⟩
abbrev S1x4096x16384 : Shape := ⟨3, ![1, 4096, 16384]⟩
abbrev S8192x4096 : Shape := ⟨2, ![8192, 4096]⟩
abbrev S8192x2048 : Shape := ⟨2, ![8192, 2048]⟩
abbrev S2048x4096 : Shape := ⟨2, ![2048, 4096]⟩
abbrev S1024x2048 : Shape := ⟨2, ![1024, 2048]⟩
abbrev S2048x512 : Shape := ⟨2, ![2048, 512]⟩
abbrev S1024x512 : Shape := ⟨2, ![1024, 512]⟩
abbrev S4096x4096 : Shape := ⟨2, ![4096, 4096]⟩
abbrev S4096x512 : Shape := ⟨2, ![4096, 512]⟩
abbrev S4096 : Shape := ⟨1, ![4096]⟩
abbrev S256x4096 : Shape := ⟨2, ![256, 4096]⟩
abbrev S256 : Shape := ⟨1, ![256]⟩
abbrev S256x1 : Shape := ⟨2, ![256, 1]⟩
abbrev S4096x16384 : Shape := ⟨2, ![4096, 16384]⟩
abbrev S8192x16384 : Shape := ⟨2, ![8192, 16384]⟩

abbrev nBuf : Space → Nat
  | .hbm => 26
  | .vmem => 34
  | .smem => 0
  | _ => 0

abbrev bufTy : (tb : Table) → Fin (tcTables nBuf tb) → BufTy
  | .hbm, ⟨0, _⟩ => ⟨S4x2048x4096, .f32⟩
  | .hbm, ⟨1, _⟩ => ⟨S4x2048x2048, .bf16⟩
  | .hbm, ⟨2, _⟩ => ⟨S4x2048x2048, .bf16⟩
  | .hbm, ⟨3, _⟩ => ⟨S8192x8192, .bf16⟩
  | .hbm, ⟨4, _⟩ => ⟨S1x2048x4096, .f32⟩
  | .hbm, ⟨5, _⟩ => ⟨S1x2048x4096, .f32⟩
  | .hbm, ⟨6, _⟩ => ⟨S1x4096x4096, .f32⟩
  | .hbm, ⟨7, _⟩ => ⟨S1x4096, .f32⟩
  | .hbm, ⟨8, _⟩ => ⟨S1x4096, .f32⟩
  | .hbm, ⟨9, _⟩ => ⟨S1x4096x16384, .f32⟩
  | .hbm, ⟨10, _⟩ => ⟨S8192x4096, .f32⟩
  | .hbm, ⟨11, _⟩ => ⟨S8192x2048, .bf16⟩
  | .hbm, ⟨12, _⟩ => ⟨S8192x2048, .bf16⟩
  | .hbm, ⟨13, _⟩ => ⟨S2048x4096, .f32⟩
  | .hbm, ⟨14, _⟩ => ⟨S2048x4096, .f32⟩
  | .hbm, ⟨15, _⟩ => ⟨S8192x4096, .bf16⟩
  | .hbm, ⟨16, _⟩ => ⟨S4096x4096, .f32⟩
  | .hbm, ⟨17, _⟩ => ⟨S8192x4096, .bf16⟩
  | .hbm, ⟨18, _⟩ => ⟨S4096, .f32⟩
  | .hbm, ⟨19, _⟩ => ⟨S4096, .f32⟩
  | .hbm, ⟨20, _⟩ => ⟨S1x4096, .f32⟩
  | .hbm, ⟨21, _⟩ => ⟨S1x4096, .f32⟩
  | .hbm, ⟨22, _⟩ => ⟨S8192x4096, .f32⟩
  | .hbm, ⟨23, _⟩ => ⟨S8192x4096, .bf16⟩
  | .hbm, ⟨24, _⟩ => ⟨S4096x16384, .f32⟩
  | .hbm, ⟨25, _⟩ => ⟨S8192x16384, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S2048x4096, .bf16⟩
  | .local _ .vmem, ⟨15, _⟩ => ⟨S4096x512, .f32⟩
  | .local _ .vmem, ⟨16, _⟩ => ⟨S4096x512, .f32⟩
  | .local _ .vmem, ⟨17, _⟩ => ⟨S2048x512, .bf16⟩
  | .local _ .vmem, ⟨18, _⟩ => ⟨S2048x512, .bf16⟩
  | .local _ .vmem, ⟨19, _⟩ => ⟨S256x4096, .f32⟩
  | .local _ .vmem, ⟨20, _⟩ => ⟨S256x4096, .f32⟩
  | .local _ .vmem, ⟨21, _⟩ => ⟨S256x4096, .bf16⟩
  | .local _ .vmem, ⟨22, _⟩ => ⟨S256x4096, .bf16⟩
  | .local _ .vmem, ⟨23, _⟩ => ⟨S1x4096, .f32⟩
  | .local _ .vmem, ⟨24, _⟩ => ⟨S1x4096, .f32⟩
  | .local _ .vmem, ⟨25, _⟩ => ⟨S256x4096, .f32⟩
  | .local _ .vmem, ⟨26, _⟩ => ⟨S256x4096, .f32⟩
  | .local _ .vmem, ⟨27, _⟩ => ⟨S256x4096, .bf16⟩
  | .local _ .vmem, ⟨28, _⟩ => ⟨S256x4096, .bf16⟩
  | .local _ .vmem, ⟨29, _⟩ => ⟨S2048x4096, .bf16⟩
  | .local _ .vmem, ⟨30, _⟩ => ⟨S4096x512, .f32⟩
  | .local _ .vmem, ⟨31, _⟩ => ⟨S4096x512, .f32⟩
  | .local _ .vmem, ⟨32, _⟩ => ⟨S2048x512, .bf16⟩
  | .local _ .vmem, ⟨33, _⟩ => ⟨S2048x512, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v13 : Ref sig .tc := ⟨.hbm, 24, rfl⟩
abbrev main_v14 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg2_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem1_0 : DmaSem sig := 15
abbrev cc1_sem1_1 : DmaSem sig := 16
abbrev cc1_sem2_0 : DmaSem sig := 17
abbrev cc1_sem2_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem4_1 : DmaSem sig := 26
abbrev cc2_sem5_0 : DmaSem sig := 27
abbrev cc2_sem5_1 : DmaSem sig := 28
abbrev cc3_sem0_0 : DmaSem sig := 29
abbrev cc3_sem1_0 : DmaSem sig := 30
abbrev cc3_sem1_1 : DmaSem sig := 31
abbrev cc3_sem2_0 : DmaSem sig := 32
abbrev cc3_sem2_1 : DmaSem sig := 33

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![4, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S2048x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S256x4096 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S256x4096 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![4, 32], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S2048x4096 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4096x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== TailRefIdeal.lean ====
abbrev S4x2048x4096 : Shape := ⟨3, ![4, 2048, 4096]⟩
abbrev S4x2048x2048 : Shape := ⟨3, ![4, 2048, 2048]⟩
abbrev S8192x8192 : Shape := ⟨2, ![8192, 8192]⟩
abbrev S1x2048x4096 : Shape := ⟨3, ![1, 2048, 4096]⟩
abbrev S1x4096x4096 : Shape := ⟨3, ![1, 4096, 4096]⟩
abbrev S1x4096 : Shape := ⟨2, ![1, 4096]⟩
abbrev S1x4096x16384 : Shape := ⟨3, ![1, 4096, 16384]⟩
abbrev S4x2048x8192 : Shape := ⟨3, ![4, 2048, 8192]⟩
abbrev S2048x4096 : Shape := ⟨2, ![2048, 4096]⟩
abbrev S_ : Shape := ⟨0, ![]⟩
abbrev S4096x4096 : Shape := ⟨2, ![4096, 4096]⟩
abbrev S4096 : Shape := ⟨1, ![4096]⟩
abbrev S4x2048 : Shape := ⟨2, ![4, 2048]⟩
abbrev S4x2048x1 : Shape := ⟨3, ![4, 2048, 1]⟩
abbrev S1x1x4096 : Shape := ⟨3, ![1, 1, 4096]⟩
abbrev S4096x16384 : Shape := ⟨2, ![4096, 16384]⟩
abbrev S4x2048x16384 : Shape := ⟨3, ![4, 2048, 16384]⟩
abbrev S8192x4096 : Shape := ⟨2, ![8192, 4096]⟩
abbrev S8192x16384 : Shape := ⟨2, ![8192, 16384]⟩

abbrev nBuf : Space → Nat
  | .hbm => 85
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x2048, .bf16⟩
  | .hbm, ⟨2, _⟩ => ⟨S4x2048x2048, .bf16⟩
  | .hbm, ⟨3, _⟩ => ⟨S8192x8192, .bf16⟩
  | .hbm, ⟨4, _⟩ => ⟨S1x2048x4096, .f32⟩
  | .hbm, ⟨5, _⟩ => ⟨S1x2048x4096, .f32⟩
  | .hbm, ⟨6, _⟩ => ⟨S1x4096x4096, .f32⟩
  | .hbm, ⟨7, _⟩ => ⟨S1x4096, .f32⟩
  | .hbm, ⟨8, _⟩ => ⟨S1x4096, .f32⟩
  | .hbm, ⟨9, _⟩ => ⟨S1x4096x16384, .f32⟩
  | .hbm, ⟨10, _⟩ => ⟨S8192x8192, .f32⟩
  | .hbm, ⟨11, _⟩ => ⟨S4x2048x8192, .f32⟩
  | .hbm, ⟨12, _⟩ => ⟨S4x2048x4096, .f32⟩
  | .hbm, ⟨13, _⟩ => ⟨S4x2048x4096, .f32⟩
  | .hbm, ⟨14, _⟩ => ⟨S4x2048x2048, .f32⟩
  | .hbm, ⟨15, _⟩ => ⟨S2048x4096, .f32⟩
  | .hbm, ⟨16, _⟩ => ⟨S4x2048x4096, .f32⟩
  | .hbm, ⟨17, _⟩ => ⟨S4x2048x2048, .f32⟩
  | .hbm, ⟨18, _⟩ => ⟨S2048x4096, .f32⟩
  | .hbm, ⟨19, _⟩ => ⟨S4x2048x4096, .f32⟩
  | .hbm, ⟨20, _⟩ => ⟨S4x2048x4096, .f32⟩
  | .hbm, ⟨21, _⟩ => ⟨S4x2048x4096, .f32⟩
  | .hbm, ⟨22, _⟩ => ⟨S_, .f32⟩
  | .hbm, ⟨23, _⟩ => ⟨S4x2048x4096, .f32⟩
  | .hbm, ⟨24, _⟩ => ⟨S4x2048x4096, .f32⟩
  | .hbm, ⟨25, _⟩ => ⟨S_, .f32⟩
  | .hbm, ⟨26, _⟩ => ⟨S4x2048x4096, .f32⟩
  | .hbm, ⟨27, _⟩ => ⟨S4x2048x4096, .f32⟩
  | .hbm, ⟨28, _⟩ => ⟨S4x2048x4096, .f32⟩
  | .hbm, ⟨29, _⟩ => ⟨S4x2048x4096, .f32⟩
  | .hbm, ⟨30, _⟩ => ⟨S4x2048x4096, .f32⟩
  | .hbm, ⟨31, _⟩ => ⟨S_, .f32⟩
  | .hbm, ⟨32, _⟩ => ⟨S4x2048x4096, .f32⟩
  | .hbm, ⟨33, _⟩ => ⟨S4x2048x4096, .f32⟩
  | .hbm, ⟨34, _⟩ => ⟨S_, .f32⟩
  | .hbm, ⟨35, _⟩ => ⟨S4x2048x4096, .f32⟩
  | .hbm, ⟨36, _⟩ => ⟨S4x2048x4096, .f32⟩
  | .hbm, ⟨37, _⟩ => ⟨S4x2048x4096, .f32⟩
  | .hbm, ⟨38, _⟩ => ⟨S4x2048x4096, .f32⟩
  | .hbm, ⟨39, _⟩ => ⟨S4096x4096, .f32⟩
  | .hbm, ⟨40, _⟩ => ⟨S4x2048x4096, .f32⟩
  | .hbm, ⟨41, _⟩ => ⟨S4096, .f32⟩
  | .hbm, ⟨42, _⟩ => ⟨S4x2048x4096, .f32⟩
  | .hbm, ⟨43, _⟩ => ⟨S_, .f32⟩
  | .hbm, ⟨44, _⟩ => ⟨S4x2048, .f32⟩
  | .hbm, ⟨45, _⟩ => ⟨S4x2048x1, .f32⟩
  | .hbm, ⟨46, _⟩ => ⟨S_, .f32⟩
  | .hbm, ⟨47, _⟩ => ⟨S4x2048x1, .f32⟩
  | .hbm, ⟨48, _⟩ => ⟨S4x2048x1, .f32⟩
  | .hbm, ⟨49, _⟩ => ⟨S_, .f32⟩
  | .hbm, ⟨50, _⟩ => ⟨S4x2048x1, .f32⟩
  | .hbm, ⟨51, _⟩ => ⟨S4x2048x1, .f32⟩
  | .hbm, ⟨52, _⟩ => ⟨S4x2048x1, .f32⟩
  | .hbm, ⟨53, _⟩ => ⟨S4x2048x4096, .f32⟩
  | .hbm, ⟨54, _⟩ => ⟨S4x2048x4096, .f32⟩
  | .hbm, ⟨55, _⟩ => ⟨S1x1x4096, .f32⟩
  | .hbm, ⟨56, _⟩ => ⟨S4x2048x4096, .f32⟩
  | .hbm, ⟨57, _⟩ => ⟨S4x2048x4096, .f32⟩
  | .hbm, ⟨58, _⟩ => ⟨S4x2048x4096, .f32⟩
  | .hbm, ⟨59, _⟩ => ⟨S4096, .f32⟩
  | .hbm, ⟨60, _⟩ => ⟨S4x2048x4096, .f32⟩
  | .hbm, ⟨61, _⟩ => ⟨S_, .f32⟩
  | .hbm, ⟨62, _⟩ => ⟨S4x2048, .f32⟩
  | .hbm, ⟨63, _⟩ => ⟨S4x2048x1, .f32⟩
  | .hbm, ⟨64, _⟩ => ⟨S_, .f32⟩
  | .hbm, ⟨65, _⟩ => ⟨S4x2048x1, .f32⟩
  | .hbm, ⟨66, _⟩ => ⟨S4x2048x1, .f32⟩
  | .hbm, ⟨67, _⟩ => ⟨S_, .f32⟩
  | .hbm, ⟨68, _⟩ => ⟨S4x2048x1, .f32⟩
  | .hbm, ⟨69, _⟩ => ⟨S4x2048x1, .f32⟩
  | .hbm, ⟨70, _⟩ => ⟨S4x2048x1, .f32⟩
  | .hbm, ⟨71, _⟩ => ⟨S4x2048x4096, .f32⟩
  | .hbm, ⟨72, _⟩ => ⟨S4x2048x4096, .f32⟩
  | .hbm, ⟨73, _⟩ => ⟨S1x1x4096, .f32⟩
  | .hbm, ⟨74, _⟩ => ⟨S4x2048x4096, .f32⟩
  | .hbm, ⟨75, _⟩ => ⟨S4x2048x4096, .f32⟩
  | .hbm, ⟨76, _⟩ => ⟨S4096x16384, .f32⟩
  | .hbm, ⟨77, _⟩ => ⟨S4x2048x16384, .f32⟩
  | .hbm, ⟨78, _⟩ => ⟨S_, .f32⟩
  | .hbm, ⟨79, _⟩ => ⟨S4x2048x16384, .f32⟩
  | .hbm, ⟨80, _⟩ => ⟨S4x2048x16384, .f32⟩
  | .hbm, ⟨81, _⟩ => ⟨S4x2048x16384, .f32⟩
  | .hbm, ⟨82, _⟩ => ⟨S8192x4096, .f32⟩
  | .hbm, ⟨83, _⟩ => ⟨S4x2048x16384, .bf16⟩
  | .hbm, ⟨84, _⟩ => ⟨S8192x16384, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_cst_8 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_call0_cst : Ref sig .tc := ⟨.hbm, 78, rfl⟩
abbrev main_call0_v0 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]
-- ==== Down.lean ====
abbrev S8192x16384 : Shape := ⟨2, ![8192, 16384]⟩
abbrev S1x16384x4096 : Shape := ⟨3, ![1, 16384, 4096]⟩
abbrev S16384x4096 : Shape := ⟨2, ![16384, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x16384, .bf16⟩
  | .hbm, ⟨1, _⟩ => ⟨S1x16384x4096, .f32⟩
  | .hbm, ⟨2, _⟩ => ⟨S16384x4096, .f32⟩
  | .hbm, ⟨3, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S8192x16384 : Shape := ⟨2, ![8192, 16384]⟩
abbrev S1x16384x4096 : Shape := ⟨3, ![1, 16384, 4096]⟩
abbrev S16384x4096 : Shape := ⟨2, ![16384, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x16384, .bf16⟩
  | .hbm, ⟨1, _⟩ => ⟨S1x16384x4096, .f32⟩
  | .hbm, ⟨2, _⟩ => ⟨S8192x16384, .f32⟩
  | .hbm, ⟨3, _⟩ => ⟨S16384x4096, .f32⟩
  | .hbm, ⟨4, _⟩ => ⟨S8192x4096, .f32⟩
  | .hbm, ⟨5, _⟩ => ⟨S8192x4096, .bf16⟩
  | _, _ => ⟨S8192x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== PostMlp.lean ====
abbrev S8192x4096 : Shape := ⟨2, ![8192, 4096]⟩
abbrev S1x4096 : Shape := ⟨2, ![1, 4096]⟩
abbrev S4096 : Shape := ⟨1, ![4096]⟩
abbrev S512x4096 : Shape := ⟨2, ![512, 4096]⟩
abbrev S512 : Shape := ⟨1, ![512]⟩
abbrev S512x1 : Shape := ⟨2, ![512, 1]⟩
abbrev S4x2048x4096 : Shape := ⟨3, ![4, 2048, 4096]⟩

abbrev nBuf : Space → Nat
  | .hbm => 7
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S1x4096, .f32⟩
  | .hbm, ⟨3, _⟩ => ⟨S4096, .f32⟩
  | .hbm, ⟨4, _⟩ => ⟨S1x4096, .f32⟩
  | .hbm, ⟨5, _⟩ => ⟨S8192x4096, .f32⟩
  | .hbm, ⟨6, _⟩ => ⟨S4x2048x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1x4096, .f32⟩
  | .local _ .vmem, ⟨5, _⟩ => ⟨S512x4096, .f32⟩
  | .local _ .vmem, ⟨6, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostMlpRefIdeal.lean ====
abbrev S8192x4096 : Shape := ⟨2, ![8192, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S4x2048x4096 : Shape := ⟨3, ![4, 2048, 4096]⟩

abbrev nBuf : Space → Nat
  | .hbm => 23
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .bf16⟩
  | .hbm, ⟨2, _⟩ => ⟨S1x4096, .f32⟩
  | .hbm, ⟨3, _⟩ => ⟨S8192x4096, .f32⟩
  | .hbm, ⟨4, _⟩ => ⟨S4096, .f32⟩
  | .hbm, ⟨5, _⟩ => ⟨S8192x4096, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x4096, .f32⟩
  | .hbm, ⟨17, _⟩ => ⟨S8192x4096, .f32⟩
  | .hbm, ⟨18, _⟩ => ⟨S1x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S4x2048x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Compress.lean ====
abbrev S4x2048x512 : Shape := ⟨3, ![4, 2048, 512]⟩
abbrev S1x32x128 : Shape := ⟨3, ![1, 32, 128]⟩
abbrev S1x4096x256 : Shape := ⟨3, ![1, 4096, 256]⟩
abbrev S1x256x128 : Shape := ⟨3, ![1, 256, 128]⟩
abbrev S_ : Shape := ⟨0, ![]⟩
abbrev S4x2048x6144 : Shape := ⟨3, ![4, 2048, 6144]⟩
abbrev S4x2048x2048 : Shape := ⟨3, ![4, 2048, 2048]⟩
abbrev S4x2048x9216 : Shape := ⟨3, ![4, 2048, 9216]⟩
abbrev S32x128 : Shape := ⟨2, ![32, 128]⟩
abbrev S2x2048 : Shape := ⟨2, ![2, 2048]⟩
abbrev S4096x256 : Shape := ⟨2, ![4096, 256]⟩
abbrev S2x2048x256 : Shape := ⟨3, ![2, 2048, 256]⟩
abbrev S256x128 : Shape := ⟨2, ![256, 128]⟩
abbrev S4x4x128x128 : Shape := ⟨4, ![4, 4, 128, 128]⟩
abbrev S1x2048x128 : Shape := ⟨3, ![1, 2048, 128]⟩
abbrev S1x1x128x128 : Shape := ⟨4, ![1, 1, 128, 128]⟩
abbrev S1024x128 : Shape := ⟨2, ![1024, 128]⟩
abbrev S128x2048 : Shape := ⟨2, ![128, 2048]⟩
abbrev S2048x128 : Shape := ⟨2, ![2048, 128]⟩
abbrev S128x128 : Shape := ⟨2, ![128, 128]⟩
abbrev S1x2048 : Shape := ⟨2, ![1, 2048]⟩
abbrev S1x2048x256 : Shape := ⟨3, ![1, 2048, 256]⟩
abbrev S2048x256 : Shape := ⟨2, ![2048, 256]⟩
abbrev S128x256 : Shape := ⟨2, ![128, 256]⟩
abbrev S4x4x127x128 : Shape := ⟨4, ![4, 4, 127, 128]⟩

abbrev nBuf : Space → Nat
  | .hbm => 28
  | .vmem => 16
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S1x32x128, .f32⟩
  | .hbm, ⟨3, _⟩ => ⟨S1x4096x256, .f32⟩
  | .hbm, ⟨4, _⟩ => ⟨S1x256x128, .f32⟩
  | .hbm, ⟨5, _⟩ => ⟨S1x32x128, .f32⟩
  | .hbm, ⟨6, _⟩ => ⟨S1x4096x256, .f32⟩
  | .hbm, ⟨7, _⟩ => ⟨S1x256x128, .f32⟩
  | .hbm, ⟨8, _⟩ => ⟨S_, .f32⟩
  | .hbm, ⟨9, _⟩ => ⟨S4x2048x6144, .f32⟩
  | .hbm, ⟨10, _⟩ => ⟨S_, .f32⟩
  | .hbm, ⟨11, _⟩ => ⟨S4x2048x2048, .f32⟩
  | .hbm, ⟨12, _⟩ => ⟨S4x2048x9216, .f32⟩
  | .hbm, ⟨13, _⟩ => ⟨S4x2048x9216, .bf16⟩
  | .hbm, ⟨14, _⟩ => ⟨S32x128, .f32⟩
  | .hbm, ⟨15, _⟩ => ⟨S2x2048, .f32⟩
  | .hbm, ⟨16, _⟩ => ⟨S32x128, .f32⟩
  | .hbm, ⟨17, _⟩ => ⟨S2x2048, .f32⟩
  | .hbm, ⟨18, _⟩ => ⟨S4096x256, .f32⟩
  | .hbm, ⟨19, _⟩ => ⟨S2x2048x256, .f32⟩
  | .hbm, ⟨20, _⟩ => ⟨S4096x256, .f32⟩
  | .hbm, ⟨21, _⟩ => ⟨S2x2048x256, .f32⟩
  | .hbm, ⟨22, _⟩ => ⟨S256x128, .f32⟩
  | .hbm, ⟨23, _⟩ => ⟨S256x128, .f32⟩
  | .hbm, ⟨24, _⟩ => ⟨S4x4x128x128, .bf16⟩
  | .hbm, ⟨25, _⟩ => ⟨S4x4x128x128, .bf16⟩
  | .hbm, ⟨26, _⟩ => ⟨S4x4x127x128, .bf16⟩
  | .hbm, ⟨27, _⟩ => ⟨S4x4x127x128, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S2x2048, .f32⟩
  | .local _ .vmem, ⟨5, _⟩ => ⟨S2x2048, .f32⟩
  | .local _ .vmem, ⟨6, _⟩ => ⟨S2x2048x256, .f32⟩
  | .local _ .vmem, ⟨7, _⟩ => ⟨S2x2048x256, .f32⟩
  | .local _ .vmem, ⟨8, _⟩ => ⟨S256x128, .f32⟩
  | .local _ .vmem, ⟨9, _⟩ => ⟨S256x128, .f32⟩
  | .local _ .vmem, ⟨10, _⟩ => ⟨S1x1x128x128, .bf16⟩
  | .local _ .vmem, ⟨11, _⟩ => ⟨S1x1x128x128, .bf16⟩
  | .local _ .vmem, ⟨12, _⟩ => ⟨S1x1x128x128, .bf16⟩
  | .local _ .vmem, ⟨13, _⟩ => ⟨S1x1x128x128, .bf16⟩
  | .local _ .vmem, ⟨14, _⟩ => ⟨S1024x128, .i32⟩
  | .local _ .vmem, ⟨15, _⟩ => ⟨S128x2048, .f32⟩
  | _, _ => ⟨S4x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [BitOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  let c0_i32_0 : BitVec 32 := 0#32
  ![arg0.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c52_i32 : BitVec 32 := 52#32
  let v0 : BitVec 32 := Scalar.addi c52_i32 arg1
  let c0_i32 : BitVec 32 := 0#32
  let c0_i32_0 : BitVec 32 := 0#32
  ![arg0.toNat, c0_i32.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== CompressIdeal.lean ====
abbrev S1024x2x128 : Shape := ⟨3, ![1024, 2, 128]⟩
abbrev S1024x1x128 : Shape := ⟨3, ![1024, 1, 128]⟩
abbrev S128x2x128 : Shape := ⟨3, ![128, 2, 128]⟩
abbrev S128x1x128 : Shape := ⟨3, ![128, 1, 128]⟩
  | .local _ .vmem, ⟨14, _⟩ => ⟨S1024x2x128, .bf16⟩
variable {F : FTy → Type} [FloatOps F]
-- ==== CompressRefIdeal.lean ====
abbrev S4x2048x512 : Shape := ⟨3, ![4, 2048, 512]⟩
abbrev S1x32x128 : Shape := ⟨3, ![1, 32, 128]⟩
abbrev S1x4096x256 : Shape := ⟨3, ![1, 4096, 256]⟩
abbrev S1x256x128 : Shape := ⟨3, ![1, 256, 128]⟩
abbrev S32x128 : Shape := ⟨2, ![32, 128]⟩
abbrev S4096x256 : Shape := ⟨2, ![4096, 256]⟩
abbrev S256x128 : Shape := ⟨2, ![256, 128]⟩
abbrev S4x128x16x4x128 : Shape := ⟨5, ![4, 128, 16, 4, 128]⟩
abbrev S4x127x16x4x128 : Shape := ⟨5, ![4, 127, 16, 4, 128]⟩
abbrev S4x127x32x4x128 : Shape := ⟨5, ![4, 127, 32, 4, 128]⟩
abbrev S1x1x32x1x128 : Shape := ⟨5, ![1, 1, 32, 1, 128]⟩
abbrev S4x127x4x32x128 : Shape := ⟨5, ![4, 127, 4, 32, 128]⟩
abbrev S4x127x4x4096 : Shape := ⟨4, ![4, 127, 4, 4096]⟩
abbrev S4x127x4x256 : Shape := ⟨4, ![4, 127, 4, 256]⟩
abbrev S_ : Shape := ⟨0, ![]⟩
abbrev S4x127x4x128 : Shape := ⟨4, ![4, 127, 4, 128]⟩
abbrev S4x4x127x128 : Shape := ⟨4, ![4, 4, 127, 128]⟩

abbrev nBuf : Space → Nat
  | .hbm => 74
  | .vmem => 0
  | .smem => 0
  | _ => 0

abbrev bufTy : (tb : Table) → Fin (tcTables nBuf tb) → BufTy
  | .hbm, ⟨0, _⟩ => ⟨S4x2048x512, .f32⟩
  | .hbm, ⟨1, _⟩ => ⟨S4x2048x512, .f32⟩
  | .hbm, ⟨2, _⟩ => ⟨S1x32x128, .f32⟩
  | .hbm, ⟨3, _⟩ => ⟨S1x4096x256, .f32⟩
  | .hbm, ⟨4, _⟩ => ⟨S1x256x128, .f32⟩
  | .hbm, ⟨5, _⟩ => ⟨S1x32x128, .f32⟩
  | .hbm, ⟨6, _⟩ => ⟨S1x4096x256, .f32⟩
  | .hbm, ⟨7, _⟩ => ⟨S1x256x128, .f32⟩
  | .hbm, ⟨8, _⟩ => ⟨S32x128, .f32⟩
  | .hbm, ⟨9, _⟩ => ⟨S4096x256, .f32⟩
  | .hbm, ⟨10, _⟩ => ⟨S256x128, .f32⟩
  | .hbm, ⟨11, _⟩ => ⟨S4x128x16x4x128, .f32⟩
  | .hbm, ⟨12, _⟩ => ⟨S4x127x16x4x128, .f32⟩
  | .hbm, ⟨13, _⟩ => ⟨S4x127x16x4x128, .f32⟩
  | .hbm, ⟨14, _⟩ => ⟨S4x127x32x4x128, .f32⟩
  | .hbm, ⟨15, _⟩ => ⟨S1x1x32x1x128, .f32⟩
  | .hbm, ⟨16, _⟩ => ⟨S4x127x32x4x128, .f32⟩
  | .hbm, ⟨17, _⟩ => ⟨S4x127x32x4x128, .f32⟩
  | .hbm, ⟨18, _⟩ => ⟨S4x127x4x32x128, .f32⟩
  | .hbm, ⟨19, _⟩ => ⟨S4x127x4x4096, .f32⟩
  | .hbm, ⟨20, _⟩ => ⟨S4x127x4x256, .f32⟩
  | .hbm, ⟨21, _⟩ => ⟨S4x127x4x256, .f32⟩
  | .hbm, ⟨22, _⟩ => ⟨S4x127x4x256, .f32⟩
  | .hbm, ⟨23, _⟩ => ⟨S_, .f32⟩
  | .hbm, ⟨24, _⟩ => ⟨S4x127x4x256, .f32⟩
  | .hbm, ⟨25, _⟩ => ⟨S4x127x4x256, .f32⟩
  | .hbm, ⟨26, _⟩ => ⟨S4x127x4x256, .f32⟩
  | .hbm, ⟨27, _⟩ => ⟨S_, .f32⟩
  | .hbm, ⟨28, _⟩ => ⟨S4x127x4x256, .f32⟩
  | .hbm, ⟨29, _⟩ => ⟨S4x127x4x256, .f32⟩
  | .hbm, ⟨30, _⟩ => ⟨S4x127x4x256, .f32⟩
  | .hbm, ⟨31, _⟩ => ⟨S_, .f32⟩
  | .hbm, ⟨32, _⟩ => ⟨S4x127x4x256, .f32⟩
  | .hbm, ⟨33, _⟩ => ⟨S4x127x4x256, .f32⟩
  | .hbm, ⟨34, _⟩ => ⟨S_, .f32⟩
  | .hbm, ⟨35, _⟩ => ⟨S4x127x4x256, .f32⟩
  | .hbm, ⟨36, _⟩ => ⟨S4x127x4x256, .f32⟩
  | .hbm, ⟨37, _⟩ => ⟨S4x127x4x256, .f32⟩
  | .hbm, ⟨38, _⟩ => ⟨S4x127x4x128, .f32⟩
  | .hbm, ⟨39, _⟩ => ⟨S32x128, .f32⟩
  | .hbm, ⟨40, _⟩ => ⟨S4096x256, .f32⟩
  | .hbm, ⟨41, _⟩ => ⟨S256x128, .f32⟩
  | .hbm, ⟨42, _⟩ => ⟨S4x128x16x4x128, .f32⟩
  | .hbm, ⟨43, _⟩ => ⟨S4x127x16x4x128, .f32⟩
  | .hbm, ⟨44, _⟩ => ⟨S4x127x16x4x128, .f32⟩
  | .hbm, ⟨45, _⟩ => ⟨S4x127x32x4x128, .f32⟩
  | .hbm, ⟨46, _⟩ => ⟨S1x1x32x1x128, .f32⟩
  | .hbm, ⟨47, _⟩ => ⟨S4x127x32x4x128, .f32⟩
  | .hbm, ⟨48, _⟩ => ⟨S4x127x32x4x128, .f32⟩
  | .hbm, ⟨49, _⟩ => ⟨S4x127x4x32x128, .f32⟩
  | .hbm, ⟨50, _⟩ => ⟨S4x127x4x4096, .f32⟩
  | .hbm, ⟨51, _⟩ => ⟨S4x127x4x256, .f32⟩
  | .hbm, ⟨52, _⟩ => ⟨S4x127x4x256, .f32⟩
  | .hbm, ⟨53, _⟩ => ⟨S4x127x4x256, .f32⟩
  | .hbm, ⟨54, _⟩ => ⟨S_, .f32⟩
  | .hbm, ⟨55, _⟩ => ⟨S4x127x4x256, .f32⟩
  | .hbm, ⟨56, _⟩ => ⟨S4x127x4x256, .f32⟩
  | .hbm, ⟨57, _⟩ => ⟨S4x127x4x256, .f32⟩
  | .hbm, ⟨58, _⟩ => ⟨S_, .f32⟩
  | .hbm, ⟨59, _⟩ => ⟨S4x127x4x256, .f32⟩
  | .hbm, ⟨60, _⟩ => ⟨S4x127x4x256, .f32⟩
  | .hbm, ⟨61, _⟩ => ⟨S4x127x4x256, .f32⟩
  | .hbm, ⟨62, _⟩ => ⟨S_, .f32⟩
  | .hbm, ⟨63, _⟩ => ⟨S4x127x4x256, .f32⟩
  | .hbm, ⟨64, _⟩ => ⟨S4x127x4x256, .f32⟩
  | .hbm, ⟨65, _⟩ => ⟨S_, .f32⟩
  | .hbm, ⟨66, _⟩ => ⟨S4x127x4x256, .f32⟩
  | .hbm, ⟨67, _⟩ => ⟨S4x127x4x256, .f32⟩
  | .hbm, ⟨68, _⟩ => ⟨S4x127x4x256, .f32⟩
  | .hbm, ⟨69, _⟩ => ⟨S4x127x4x128, .f32⟩
  | .hbm, ⟨70, _⟩ => ⟨S4x127x4x128, .bf16⟩
  | .hbm, ⟨71, _⟩ => ⟨S4x4x127x128, .bf16⟩
  | .hbm, ⟨72, _⟩ => ⟨S4x127x4x128, .bf16⟩
  | .hbm, ⟨73, _⟩ => ⟨S4x4x127x128, .bf16⟩
  | _, _ => ⟨S4x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_4 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_5 : Ref sig .tc := ⟨.hbm, 62, rfl⟩
abbrev main_v48 : Ref sig .tc := ⟨.hbm, 63, rfl⟩
abbrev main_v49 : Ref sig .tc := ⟨.hbm, 64, rfl⟩
abbrev main_cst_6 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩

abbrev nD : Nat := 1
abbrev τ : Topo := Topo.v7x

variable {F : FTy → Type} [FloatOps F]
-- ==== Attn.lean ====
abbrev S4x2048x2048 : Shape := ⟨3, ![4, 2048, 2048]⟩
abbrev S4x127x4x128 : Shape := ⟨4, ![4, 127, 4, 128]⟩
abbrev S4x2048x512 : Shape := ⟨3, ![4, 2048, 512]⟩
abbrev S4x2048x48 : Shape := ⟨3, ![4, 2048, 48]⟩
abbrev S32x128 : Shape := ⟨2, ![32, 128]⟩
abbrev S_ : Shape := ⟨0, ![]⟩
abbrev S4x2048x4096 : Shape := ⟨3, ![4, 2048, 4096]⟩
abbrev S4x2048x1024 : Shape := ⟨3, ![4, 2048, 1024]⟩
abbrev S4x2048x9216 : Shape := ⟨3, ![4, 2048, 9216]⟩
abbrev S4x2048x128 : Shape := ⟨3, ![4, 2048, 128]⟩
abbrev S4x128x4x128 : Shape := ⟨4, ![4, 128, 4, 128]⟩
abbrev S4x4x128x128 : Shape := ⟨4, ![4, 4, 128, 128]⟩
abbrev S2048 : Shape := ⟨1, ![2048]⟩
abbrev S2048x1 : Shape := ⟨2, ![2048, 1]⟩
abbrev S128 : Shape := ⟨1, ![128]⟩
abbrev S1x128 : Shape := ⟨2, ![1, 128]⟩
abbrev S2048x128 : Shape := ⟨2, ![2048, 128]⟩
abbrev S1x256x512 : Shape := ⟨3, ![1, 256, 512]⟩
abbrev S1x2048x128 : Shape := ⟨3, ![1, 2048, 128]⟩
abbrev S1x1x128x128 : Shape := ⟨4, ![1, 1, 128, 128]⟩
abbrev S1x256x128 : Shape := ⟨3, ![1, 256, 128]⟩
abbrev S8x1024x256 : Shape := ⟨3, ![8, 1024, 256]⟩
abbrev S1024x128 : Shape := ⟨2, ![1024, 128]⟩
abbrev S1024x256 : Shape := ⟨2, ![1024, 256]⟩
abbrev S3x1024x256 : Shape := ⟨3, ![3, 1024, 256]⟩
abbrev S12x256x128 : Shape := ⟨3, ![12, 256, 128]⟩
abbrev S256x512 : Shape := ⟨2, ![256, 512]⟩
abbrev S256x128 : Shape := ⟨2, ![256, 128]⟩
abbrev S256x1 : Shape := ⟨2, ![256, 1]⟩
abbrev S1x768x128 : Shape := ⟨3, ![1, 768, 128]⟩
abbrev S768x128 : Shape := ⟨2, ![768, 128]⟩
abbrev S1024x768 : Shape := ⟨2, ![1024, 768]⟩
abbrev S256x768 : Shape := ⟨2, ![256, 768]⟩
abbrev S4x256x256 : Shape := ⟨3, ![4, 256, 256]⟩
abbrev S256x256 : Shape := ⟨2, ![256, 256]⟩
abbrev S1x256x256 : Shape := ⟨3, ![1, 256, 256]⟩
abbrev S1x1024x256 : Shape := ⟨3, ![1, 1024, 256]⟩
abbrev S1024 : Shape := ⟨1, ![1024]⟩
abbrev S1024x1 : Shape := ⟨2, ![1024, 1]⟩
abbrev S768x256 : Shape := ⟨2, ![768, 256]⟩
abbrev S128x128 : Shape := ⟨2, ![128, 128]⟩
abbrev S4x256x128 : Shape := ⟨3, ![4, 256, 128]⟩
abbrev S4x256 : Shape := ⟨2, ![4, 256]⟩
abbrev S4x256x1 : Shape := ⟨3, ![4, 256, 1]⟩
abbrev S32x256 : Shape := ⟨2, ![32, 256]⟩
abbrev S1x256 : Shape := ⟨2, ![1, 256]⟩
abbrev S96x256 : Shape := ⟨2, ![96, 256]⟩
abbrev S128x256 : Shape := ⟨2, ![128, 256]⟩
abbrev S1x512x128 : Shape := ⟨3, ![1, 512, 128]⟩
abbrev S512x128 : Shape := ⟨2, ![512, 128]⟩
abbrev S512x256 : Shape := ⟨2, ![512, 256]⟩
abbrev S1024x512 : Shape := ⟨2, ![1024, 512]⟩
abbrev S1x1024x128 : Shape := ⟨3, ![1, 1024, 128]⟩
abbrev S1024x1024 : Shape := ⟨2, ![1024, 1024]⟩
abbrev S1x1280x128 : Shape := ⟨3, ![1, 1280, 128]⟩
abbrev S1280x128 : Shape := ⟨2, ![1280, 128]⟩
abbrev S1280x256 : Shape := ⟨2, ![1280, 256]⟩
abbrev S1024x1280 : Shape := ⟨2, ![1024, 1280]⟩
abbrev S1x1536x128 : Shape := ⟨3, ![1, 1536, 128]⟩
abbrev S1536x128 : Shape := ⟨2, ![1536, 128]⟩
abbrev S1536x256 : Shape := ⟨2, ![1536, 256]⟩
abbrev S1024x1536 : Shape := ⟨2, ![1024, 1536]⟩
abbrev S1x1792x128 : Shape := ⟨3, ![1, 1792, 128]⟩
abbrev S1792x128 : Shape := ⟨2, ![1792, 128]⟩
abbrev S1792x256 : Shape := ⟨2, ![1792, 256]⟩
abbrev S1024x1792 : Shape := ⟨2, ![1024, 1792]⟩
abbrev S2048x256 : Shape := ⟨2, ![2048, 256]⟩
abbrev S1024x2048 : Shape := ⟨2, ![1024, 2048]⟩

abbrev nBuf : Space → Nat
  | .hbm => 63
  | .vmem => 26
  | .smem => 0
  | _ => 0

abbrev bufTy : (tb : Table) → Fin (tcTables nBuf tb) → BufTy
  | .hbm, ⟨0, _⟩ => ⟨S4x2048x2048, .f32⟩
  | .hbm, ⟨1, _⟩ => ⟨S4x127x4x128, .f32⟩
  | .hbm, ⟨2, _⟩ => ⟨S4x127x4x128, .f32⟩
  | .hbm, ⟨3, _⟩ => ⟨S4x2048x512, .f32⟩
  | .hbm, ⟨4, _⟩ => ⟨S4x2048x512, .f32⟩
  | .hbm, ⟨5, _⟩ => ⟨S4x2048x512, .f32⟩
  | .hbm, ⟨6, _⟩ => ⟨S4x2048x512, .f32⟩
  | .hbm, ⟨7, _⟩ => ⟨S4x2048x48, .f32⟩
  | .hbm, ⟨8, _⟩ => ⟨S32x128, .bf16⟩
  | .hbm, ⟨9, _⟩ => ⟨S_, .f32⟩
  | .hbm, ⟨10, _⟩ => ⟨S4x2048x4096, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S_, .f32⟩
  | .hbm, ⟨15, _⟩ => ⟨S4x2048x1024, .f32⟩
  | .hbm, ⟨16, _⟩ => ⟨S4x2048x9216, .f32⟩
  | .hbm, ⟨17, _⟩ => ⟨S_, .i32⟩
  | .hbm, ⟨18, _⟩ => ⟨S_, .f32⟩
  | .hbm, ⟨19, _⟩ => ⟨S4x2048x128, .f32⟩
  | .hbm, ⟨20, _⟩ => ⟨S_, .i32⟩
  | .hbm, ⟨21, _⟩ => ⟨S_, .f32⟩
  | .hbm, ⟨22, _⟩ => ⟨S4x128x4x128, .f32⟩
  | .hbm, ⟨23, _⟩ => ⟨S4x4x128x128, .f32⟩
  | .hbm, ⟨24, _⟩ => ⟨S4x4x128x128, .bf16⟩
  | .hbm, ⟨25, _⟩ => ⟨S_, .i32⟩
  | .hbm, ⟨26, _⟩ => ⟨S_, .f32⟩
  | .hbm, ⟨27, _⟩ => ⟨S4x128x4x128, .f32⟩
  | .hbm, ⟨28, _⟩ => ⟨S4x4x128x128, .f32⟩
  | .hbm, ⟨29, _⟩ => ⟨S4x4x128x128, .bf16⟩
  | .hbm, ⟨30, _⟩ => ⟨S2048, .i32⟩
  | .hbm, ⟨31, _⟩ => ⟨S2048x1, .i32⟩
  | .hbm, ⟨32, _⟩ => ⟨S_, .i32⟩
  | .hbm, ⟨33, _⟩ => ⟨S_, .i32⟩
  | .hbm, ⟨34, _⟩ => ⟨S2048x1, .i32⟩
  | .hbm, ⟨35, _⟩ => ⟨S2048x1, .i32⟩
  | .hbm, ⟨36, _⟩ => ⟨S2048x1, .i32⟩
  | .hbm, ⟨37, _⟩ => ⟨S_, .i32⟩
  | .hbm, ⟨38, _⟩ => ⟨S2048x1, .i32⟩
  | .hbm, ⟨39, _⟩ => ⟨S2048x1, .i1⟩
  | .hbm, ⟨40, _⟩ => ⟨S2048x1, .i32⟩
  | .hbm, ⟨41, _⟩ => ⟨S2048x1, .i32⟩
  | .hbm, ⟨42, _⟩ => ⟨S_, .i32⟩
  | .hbm, ⟨43, _⟩ => ⟨S2048x1, .i32⟩
  | .hbm, ⟨44, _⟩ => ⟨S2048x1, .i1⟩
  | .hbm, ⟨45, _⟩ => ⟨S2048x1, .i1⟩
  | .hbm, ⟨46, _⟩ => ⟨S_, .i32⟩
  | .hbm, ⟨47, _⟩ => ⟨S2048x1, .i32⟩
  | .hbm, ⟨48, _⟩ => ⟨S2048x1, .i32⟩
  | .hbm, ⟨49, _⟩ => ⟨S2048x1, .i32⟩
  | .hbm, ⟨50, _⟩ => ⟨S128, .i32⟩
  | .hbm, ⟨51, _⟩ => ⟨S1x128, .i32⟩
  | .hbm, ⟨52, _⟩ => ⟨S2048x128, .i32⟩
  | .hbm, ⟨53, _⟩ => ⟨S2048x128, .i32⟩
  | .hbm, ⟨54, _⟩ => ⟨S2048x128, .i1⟩
  | .hbm, ⟨55, _⟩ => ⟨S_, .f32⟩
  | .hbm, ⟨56, _⟩ => ⟨S_, .f32⟩
  | .hbm, ⟨57, _⟩ => ⟨S2048x128, .f32⟩
  | .hbm, ⟨58, _⟩ => ⟨S2048x128, .f32⟩
  | .hbm, ⟨59, _⟩ => ⟨S2048x128, .f32⟩
  | .hbm, ⟨60, _⟩ => ⟨S2048x128, .bf16⟩
  | .hbm, ⟨61, _⟩ => ⟨S4x2048x9216, .bf16⟩
  | .hbm, ⟨62, _⟩ => ⟨S4x2048x2048, .bf16⟩
  | .local _ .vmem, ⟨0, _⟩ => ⟨S1x256x512, .bf16⟩
  | .local _ .vmem, ⟨1, _⟩ => ⟨S1x256x512, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x1x128x128, .bf16⟩
  | .local _ .vmem, ⟨11, _⟩ => ⟨S1x1x128x128, .bf16⟩
  | .local _ .vmem, ⟨12, _⟩ => ⟨S1x1x128x128, .bf16⟩
  | .local _ .vmem, ⟨13, _⟩ => ⟨S1x1x128x128, .bf16⟩
  | .local _ .vmem, ⟨14, _⟩ => ⟨S1x256x128, .f32⟩
  | .local _ .vmem, ⟨15, _⟩ => ⟨S1x256x128, .f32⟩
  | .local _ .vmem, ⟨16, _⟩ => ⟨S32x128, .bf16⟩
  | .local _ .vmem, ⟨17, _⟩ => ⟨S2048x128, .bf16⟩
  | .local _ .vmem, ⟨18, _⟩ => ⟨S1x256x512, .bf16⟩
  | .local _ .vmem, ⟨19, _⟩ => ⟨S1x256x512, .bf16⟩
  | .local _ .vmem, ⟨20, _⟩ => ⟨S8x1024x256, .f32⟩
  | .local _ .vmem, ⟨21, _⟩ => ⟨S1024x128, .f32⟩
  | .local _ .vmem, ⟨22, _⟩ => ⟨S1024x256, .f32⟩
  | .local _ .vmem, ⟨23, _⟩ => ⟨S3x1024x256, .f32⟩
  | .local _ .vmem, ⟨24, _⟩ => ⟨S1024x128, .f32⟩
  | .local _ .vmem, ⟨25, _⟩ => ⟨S12x256x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_v0 : Ref sig .tc := ⟨.hbm, 10, rfl⟩
abbrev main_cst_1 : Ref sig .tc := ⟨.hbm, 11, rfl⟩
abbrev main_v1 : Ref sig .tc := ⟨.hbm, 12, rfl⟩
abbrev main_v2 : Ref sig .tc := ⟨.hbm, 13, rfl⟩
abbrev main_cst_2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_call0_v0 : Ref sig .tc := ⟨.hbm, 18, rfl⟩
abbrev main_v5 : Ref sig .tc := ⟨.hbm, 19, rfl⟩
abbrev main_c_3 : Ref sig .tc := ⟨.hbm, 20, rfl⟩
abbrev main_call1_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_4 : Ref sig .tc := ⟨.hbm, 25, rfl⟩
abbrev main_call2_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_5 : Ref sig .tc := ⟨.hbm, 32, rfl⟩
abbrev main_call3_v0 : Ref sig .tc := ⟨.hbm, 33, rfl⟩
abbrev main_call3_v1 : Ref sig .tc := ⟨.hbm, 34, rfl⟩
abbrev main_call3_v2 : Ref sig .tc := ⟨.hbm, 35, rfl⟩
abbrev main_call3_v3 : Ref sig .tc := ⟨.hbm, 36, rfl⟩
abbrev main_call3_v4 : Ref sig .tc := ⟨.hbm, 37, rfl⟩
abbrev main_call3_v5 : Ref sig .tc := ⟨.hbm, 38, rfl⟩
abbrev main_call3_v6 : Ref sig .tc := ⟨.hbm, 39, rfl⟩
abbrev main_call3_v7 : Ref sig .tc := ⟨.hbm, 40, rfl⟩
abbrev main_call3_v8 : Ref sig .tc := ⟨.hbm, 41, rfl⟩
abbrev main_call3_c : Ref sig .tc := ⟨.hbm, 42, rfl⟩
abbrev main_call3_v9 : Ref sig .tc := ⟨.hbm, 43, rfl⟩
abbrev main_call3_v10 : Ref sig .tc := ⟨.hbm, 44, rfl⟩
abbrev main_call3_v11 : Ref sig .tc := ⟨.hbm, 45, rfl⟩
abbrev main_call3_c_0 : Ref sig .tc := ⟨.hbm, 46, rfl⟩
abbrev main_call3_v12 : Ref sig .tc := ⟨.hbm, 47, rfl⟩
abbrev main_call3_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_6 : Ref sig .tc := ⟨.hbm, 55, rfl⟩
abbrev main_cst_7 : Ref sig .tc := ⟨.hbm, 56, rfl⟩
abbrev main_call4_v0 : Ref sig .tc := ⟨.hbm, 57, rfl⟩
abbrev main_call4_v1 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c2_i32 : BitVec 32 := 2#32
  let v95 : BitVec 32 := Scalar.subi arg2 c2_i32
  let c0_i32_33 : BitVec 32 := 0#32
  let v96 : BitVec 32 := Scalar.maxsi v95 c0_i32_33
  let c256_i32_34 : BitVec 32 := 256#32
  let v97 : BitVec 32 := Scalar.muli v96 c256_i32_34
  v97
def k0_off1 (i : grid0.Coords) : Fin 3 → Nat :=
  let c0_35 : Index := 0#32
  let arg2 : BitVec 32 := BitVec.ofNat 32 (i 2).val
  let c2_i32 : BitVec 32 := 2#32
  let v95 : BitVec 32 := Scalar.subi arg2 c2_i32
  let c0_i32_33 : BitVec 32 := 0#32
  let v96 : BitVec 32 := Scalar.maxsi v95 c0_i32_33
  let c256_i32_34 : BitVec 32 := 256#32
  let v97 : BitVec 32 := Scalar.muli v96 c256_i32_34
  let v98 : BitVec 32 := v97
  let v99 : Index := Scalar.indexCast v98
  let c0_36 : Index := 0#32
  ![0, v99.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c56_i32 : BitVec 32 := 56#32
  let v0 : BitVec 32 := Scalar.addi c56_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c60_i32 : BitVec 32 := 60#32
  let v0 : BitVec 32 := Scalar.addi c60_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c64_i32 : BitVec 32 := 64#32
  let v0 : BitVec 32 := Scalar.addi c64_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c68_i32 : BitVec 32 := 68#32
  let v0 : BitVec 32 := Scalar.addi c68_i32 arg1
  let c0_i32 : BitVec 32 := 0#32
  let c0_i32_0 : BitVec 32 := 0#32
  ![arg0.toNat, c0_i32.toNat, v0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 1 → Memref sig .tc .vmem S32x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S2048x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AttnIdeal.lean ====
variable {F : FTy → Type} [FloatOps F] [Named F]
def κ : String → Option EReal := fun
  | "half_masked" => some ⊥
  | "masked" => some ⊥
  | _ => none
-- ==== AttnRefIdeal.lean ====
abbrev S4x2048x2048 : Shape := ⟨3, ![4, 2048, 2048]⟩
abbrev S4x127x4x128 : Shape := ⟨4, ![4, 127, 4, 128]⟩
abbrev S4x2048x512 : Shape := ⟨3, ![4, 2048, 512]⟩
abbrev S4x2048x48 : Shape := ⟨3, ![4, 2048, 48]⟩
abbrev S4x2048x4x4x128 : Shape := ⟨5, ![4, 2048, 4, 4, 128]⟩
abbrev S4x2048x4x128 : Shape := ⟨4, ![4, 2048, 4, 128]⟩
abbrev S2048 : Shape := ⟨1, ![2048]⟩
abbrev S127 : Shape := ⟨1, ![127]⟩
abbrev S_ : Shape := ⟨0, ![]⟩
abbrev S1x127 : Shape := ⟨2, ![1, 127]⟩
abbrev S2048x1 : Shape := ⟨2, ![2048, 1]⟩
abbrev S2048x127 : Shape := ⟨2, ![2048, 127]⟩
abbrev S4x4x127x2048x4 : Shape := ⟨5, ![4, 4, 127, 2048, 4]⟩
abbrev S4x4x4x2048x127 : Shape := ⟨5, ![4, 4, 4, 2048, 127]⟩
abbrev S4x4x4x2048 : Shape := ⟨4, ![4, 4, 4, 2048]⟩
abbrev S4x4x4x2048x1 : Shape := ⟨5, ![4, 4, 4, 2048, 1]⟩
abbrev S4x4x128x4x2048 : Shape := ⟨5, ![4, 4, 128, 4, 2048]⟩
abbrev S32 : Shape := ⟨1, ![32]⟩
abbrev S127x1 : Shape := ⟨2, ![127, 1]⟩
abbrev S1x32 : Shape := ⟨2, ![1, 32]⟩
abbrev S127x32 : Shape := ⟨2, ![127, 32]⟩
abbrev S4x4x2048x127 : Shape := ⟨4, ![4, 4, 2048, 127]⟩
abbrev S4x4x2048x32 : Shape := ⟨4, ![4, 4, 2048, 32]⟩
abbrev S2048x32 : Shape := ⟨2, ![2048, 32]⟩
abbrev S4x4x2048x1x32 : Shape := ⟨5, ![4, 4, 2048, 1, 32]⟩
abbrev S4x4x2048x32x1 : Shape := ⟨5, ![4, 4, 2048, 32, 1]⟩
abbrev S4x4x2048x32x32 : Shape := ⟨5, ![4, 4, 2048, 32, 32]⟩
abbrev S32x1 : Shape := ⟨2, ![32, 1]⟩
abbrev S32x32 : Shape := ⟨2, ![32, 32]⟩
abbrev S1x1x1x32x32 : Shape := ⟨5, ![1, 1, 1, 32, 32]⟩
abbrev S4x4x2048x32x64 : Shape := ⟨5, ![4, 4, 2048, 32, 64]⟩
abbrev S4x4x2048x2048 : Shape := ⟨4, ![4, 4, 2048, 2048]⟩
abbrev S1x2048 : Shape := ⟨2, ![1, 2048]⟩
abbrev S2048x2048 : Shape := ⟨2, ![2048, 2048]⟩
abbrev S1x1x2048x2048 : Shape := ⟨4, ![1, 1, 2048, 2048]⟩
abbrev S4x4x1x2048x2048 : Shape := ⟨5, ![4, 4, 1, 2048, 2048]⟩
abbrev S4x4x2048x2048x4 : Shape := ⟨5, ![4, 4, 2048, 2048, 4]⟩
abbrev S4x4x4x2048x2048 : Shape := ⟨5, ![4, 4, 4, 2048, 2048]⟩
abbrev S2560 : Shape := ⟨1, ![2560]⟩
abbrev S1x2560 : Shape := ⟨2, ![1, 2560]⟩
abbrev S2048x2560 : Shape := ⟨2, ![2048, 2560]⟩
abbrev S4x2560x4x128 : Shape := ⟨4, ![4, 2560, 4, 128]⟩
abbrev S4x4x2560x2048x4 : Shape := ⟨5, ![4, 4, 2560, 2048, 4]⟩
abbrev S4x4x4x2048x2560 : Shape := ⟨5, ![4, 4, 4, 2048, 2560]⟩
abbrev S4x2048x4x4x3 : Shape := ⟨5, ![4, 2048, 4, 4, 3]⟩
abbrev S4x2048x4x4x1 : Shape := ⟨5, ![4, 2048, 4, 4, 1]⟩

abbrev nBuf : Space → Nat
  | .hbm => 286
  | .vmem => 0
  | .smem => 0
  | _ => 0

abbrev hbmTy0_0 (i : Nat) : BufTy := match i % 128 with
  | 0 => ⟨S4x2048x2048, .f32⟩
  | 1 => ⟨S4x127x4x128, .f32⟩
  | 2 => ⟨S4x127x4x128, .f32⟩
  | 3 => ⟨S4x2048x512, .f32⟩
  | 4 => ⟨S4x2048x512, .f32⟩
  | 5 => ⟨S4x2048x512, .f32⟩
  | 6 => ⟨S4x2048x512, .f32⟩
  | 7 => ⟨S4x2048x48, .f32⟩
  | 8 => ⟨S4x2048x4x4x128, .f32⟩
  | 9 => ⟨S4x2048x4x128, .f32⟩
  | 10 => ⟨S4x2048x4x128, .f32⟩
  | 11 => ⟨S4x2048x4x128, .f32⟩
  | 12 => ⟨S4x2048x4x128, .f32⟩
  | 13 => ⟨S2048, .i32⟩
  | 14 => ⟨S127, .i32⟩
  | 15 => ⟨S_, .i32⟩
  | 16 => ⟨S127, .i32⟩
  | 17 => ⟨S127, .i32⟩
  | 18 => ⟨S1x127, .i32⟩
  | 19 => ⟨S_, .i32⟩
  | 20 => ⟨S1x127, .i32⟩
  | 21 => ⟨S1x127, .i32⟩
  | 22 => ⟨S_, .i32⟩
  | 23 => ⟨S1x127, .i32⟩
  | 24 => ⟨S1x127, .i32⟩
  | 25 => ⟨S2048x1, .i32⟩
  | 26 => ⟨S2048x127, .i32⟩
  | 27 => ⟨S2048x127, .i32⟩
  | 28 => ⟨S2048x127, .i1⟩
  | 29 => ⟨S4x4x127x2048x4, .f32⟩
  | 30 => ⟨S4x4x4x2048x127, .f32⟩
  | 31 => ⟨S_, .f32⟩
  | 32 => ⟨S4x4x4x2048x127, .f32⟩
  | 33 => ⟨S4x4x4x2048x127, .f32⟩
  | 34 => ⟨S_, .f32⟩
  | 35 => ⟨S_, .f32⟩
  | 36 => ⟨S4x4x4x2048x127, .i1⟩
  | 37 => ⟨S4x4x4x2048x127, .f32⟩
  | 38 => ⟨S4x4x4x2048x127, .f32⟩
  | 39 => ⟨S_, .f32⟩
  | 40 => ⟨S4x4x4x2048, .f32⟩
  | 41 => ⟨S4x4x4x2048x1, .f32⟩
  | 42 => ⟨S4x4x4x2048x127, .f32⟩
  | 43 => ⟨S4x4x4x2048x127, .f32⟩
  | 44 => ⟨S4x4x4x2048x127, .f32⟩
  | 45 => ⟨S_, .f32⟩
  | 46 => ⟨S_, .f32⟩
  | 47 => ⟨S4x4x4x2048x127, .i1⟩
  | 48 => ⟨S4x4x4x2048x127, .f32⟩
  | 49 => ⟨S4x4x4x2048x127, .f32⟩
  | 50 => ⟨S_, .f32⟩
  | 51 => ⟨S4x4x4x2048, .f32⟩
  | 52 => ⟨S4x4x4x2048x1, .f32⟩
  | 53 => ⟨S_, .f32⟩
  | 54 => ⟨S4x4x4x2048x1, .f32⟩
  | 55 => ⟨S4x4x4x2048x1, .f32⟩
  | 56 => ⟨S4x4x4x2048x127, .f32⟩
  | 57 => ⟨S4x4x4x2048x127, .f32⟩
  | 58 => ⟨S4x4x128x4x2048, .f32⟩
  | 59 => ⟨S4x2048x4x4x128, .f32⟩
  | 60 => ⟨S32, .i32⟩
  | 61 => ⟨S_, .i32⟩
  | 62 => ⟨S32, .i32⟩
  | 63 => ⟨S32, .i32⟩
  | 64 => ⟨S127x1, .i32⟩
  | 65 => ⟨S1x32, .i32⟩
  | 66 => ⟨S_, .i32⟩
  | 67 => ⟨S1x32, .i32⟩
  | 68 => ⟨S1x32, .i32⟩
  | 69 => ⟨S127x32, .i32⟩
  | 70 => ⟨S127x32, .i32⟩
  | 71 => ⟨S127x32, .i1⟩
  | 72 => ⟨S127x1, .i32⟩
  | 73 => ⟨S_, .i32⟩
  | 74 => ⟨S127x1, .i32⟩
  | 75 => ⟨S127x1, .i32⟩
  | 76 => ⟨S1x32, .i32⟩
  | 77 => ⟨S127x32, .i32⟩
  | 78 => ⟨S127x32, .i32⟩
  | 79 => ⟨S127x32, .i1⟩
  | 80 => ⟨S127x32, .i1⟩
  | 81 => ⟨S127x32, .f32⟩
  | 82 => ⟨S_, .f32⟩
  | 83 => ⟨S4x4x2048x127, .f32⟩
  | 84 => ⟨S4x4x2048x32, .f32⟩
  | 85 => ⟨S32, .i32⟩
  | 86 => ⟨S_, .i32⟩
  | 87 => ⟨S_, .i32⟩
  | 88 => ⟨S2048, .i32⟩
  | 89 => ⟨S2048, .i32⟩
  | 90 => ⟨S2048, .i32⟩
  | 91 => ⟨S_, .i32⟩
  | 92 => ⟨S2048, .i32⟩
  | 93 => ⟨S2048, .i1⟩
  | 94 => ⟨S2048, .i32⟩
  | 95 => ⟨S2048, .i32⟩
  | 96 => ⟨S_, .i32⟩
  | 97 => ⟨S2048, .i32⟩
  | 98 => ⟨S2048, .i1⟩
  | 99 => ⟨S2048, .i1⟩
  | 100 => ⟨S_, .i32⟩
  | 101 => ⟨S2048, .i32⟩
  | 102 => ⟨S2048, .i32⟩
  | 103 => ⟨S2048, .i32⟩
  | 104 => ⟨S1x32, .i32⟩
  | 105 => ⟨S2048x1, .i32⟩
  | 106 => ⟨S2048x32, .i32⟩
  | 107 => ⟨S2048x32, .i32⟩
  | 108 => ⟨S2048x32, .i1⟩
  | 109 => ⟨S1x32, .i32⟩
  | 110 => ⟨S_, .i32⟩
  | 111 => ⟨S1x32, .i32⟩
  | 112 => ⟨S1x32, .i1⟩
  | 113 => ⟨S1x32, .i32⟩
  | 114 => ⟨S2048x1, .i32⟩
  | 115 => ⟨S2048x32, .i32⟩
  | 116 => ⟨S2048x32, .i32⟩
  | 117 => ⟨S2048x32, .i1⟩
  | 118 => ⟨S2048x32, .i1⟩
  | 119 => ⟨S2048x32, .i1⟩
  | 120 => ⟨S1x32, .i32⟩
  | 121 => ⟨S2048x1, .i32⟩
  | 122 => ⟨S_, .i32⟩
  | 123 => ⟨S2048x1, .i32⟩
  | 124 => ⟨S2048x1, .i32⟩
  | 125 => ⟨S2048x32, .i32⟩
  | 126 => ⟨S2048x32, .i32⟩
  | 127 => ⟨S2048x32, .i1⟩
  | _ => ⟨S4x2048x2048, .f32⟩

abbrev hbmTy0_1 (i : Nat) : BufTy := match i % 128 with
  | 0 => ⟨S2048x32, .i1⟩
  | 1 => ⟨S2048x32, .i1⟩
  | 2 => ⟨S_, .f32⟩
  | 3 => ⟨S_, .f32⟩
  | 4 => ⟨S4x4x2048x32, .i1⟩
  | 5 => ⟨S4x4x2048x32, .f32⟩
  | 6 => ⟨S4x4x2048x32, .f32⟩
  | 7 => ⟨S_, .f32⟩
  | 8 => ⟨S_, .f32⟩
  | 9 => ⟨S4x4x2048x32, .i1⟩
  | 10 => ⟨S4x4x2048x32, .f32⟩
  | 11 => ⟨S4x4x2048x32, .f32⟩
  | 12 => ⟨S4x4x2048x1x32, .f32⟩
  | 13 => ⟨S4x4x2048x32x1, .f32⟩
  | 14 => ⟨S4x4x2048x32x32, .f32⟩
  | 15 => ⟨S4x4x2048x32x32, .f32⟩
  | 16 => ⟨S4x4x2048x32x32, .i1⟩
  | 17 => ⟨S4x4x2048x1x32, .f32⟩
  | 18 => ⟨S4x4x2048x32x1, .f32⟩
  | 19 => ⟨S4x4x2048x32x32, .f32⟩
  | 20 => ⟨S4x4x2048x32x32, .f32⟩
  | 21 => ⟨S4x4x2048x32x32, .i1⟩
  | 22 => ⟨S1x32, .i32⟩
  | 23 => ⟨S32x1, .i32⟩
  | 24 => ⟨S32x32, .i32⟩
  | 25 => ⟨S32x32, .i32⟩
  | 26 => ⟨S32x32, .i1⟩
  | 27 => ⟨S1x1x1x32x32, .i1⟩
  | 28 => ⟨S4x4x2048x32x32, .i1⟩
  | 29 => ⟨S4x4x2048x32x32, .i1⟩
  | 30 => ⟨S4x4x2048x32x32, .i1⟩
  | 31 => ⟨S4x4x2048x32x32, .i32⟩
  | 32 => ⟨S_, .i32⟩
  | 33 => ⟨S4x4x2048x32, .i32⟩
  | 34 => ⟨S_, .i32⟩
  | 35 => ⟨S4x4x2048x32, .i32⟩
  | 36 => ⟨S4x4x2048x32, .i1⟩
  | 37 => ⟨S2048, .i32⟩
  | 38 => ⟨S4x4x2048x32x1, .i1⟩
  | 39 => ⟨S4x4x2048x32x64, .i1⟩
  | 40 => ⟨S4x4x2048x2048, .i1⟩
  | 41 => ⟨S1x2048, .i32⟩
  | 42 => ⟨S2048x1, .i32⟩
  | 43 => ⟨S2048x2048, .i32⟩
  | 44 => ⟨S2048x2048, .i32⟩
  | 45 => ⟨S2048x2048, .i1⟩
  | 46 => ⟨S1x1x2048x2048, .i1⟩
  | 47 => ⟨S4x4x2048x2048, .i1⟩
  | 48 => ⟨S4x4x2048x2048, .i1⟩
  | 49 => ⟨S4x4x1x2048x2048, .i1⟩
  | 50 => ⟨S4x4x2048x2048x4, .f32⟩
  | 51 => ⟨S4x4x4x2048x2048, .f32⟩
  | 52 => ⟨S_, .f32⟩
  | 53 => ⟨S4x4x4x2048x2048, .f32⟩
  | 54 => ⟨S4x4x4x2048x2048, .f32⟩
  | 55 => ⟨S_, .f32⟩
  | 56 => ⟨S_, .f32⟩
  | 57 => ⟨S4x4x4x2048x2048, .i1⟩
  | 58 => ⟨S4x4x4x2048x2048, .f32⟩
  | 59 => ⟨S4x4x4x2048x2048, .f32⟩
  | 60 => ⟨S_, .f32⟩
  | 61 => ⟨S4x4x4x2048, .f32⟩
  | 62 => ⟨S4x4x4x2048x1, .f32⟩
  | 63 => ⟨S4x4x4x2048x2048, .f32⟩
  | 64 => ⟨S4x4x4x2048x2048, .f32⟩
  | 65 => ⟨S4x4x4x2048x2048, .f32⟩
  | 66 => ⟨S_, .f32⟩
  | 67 => ⟨S_, .f32⟩
  | 68 => ⟨S4x4x4x2048x2048, .i1⟩
  | 69 => ⟨S4x4x4x2048x2048, .f32⟩
  | 70 => ⟨S4x4x4x2048x2048, .f32⟩
  | 71 => ⟨S_, .f32⟩
  | 72 => ⟨S4x4x4x2048, .f32⟩
  | 73 => ⟨S4x4x4x2048x1, .f32⟩
  | 74 => ⟨S_, .f32⟩
  | 75 => ⟨S4x4x4x2048x1, .f32⟩
  | 76 => ⟨S4x4x4x2048x1, .f32⟩
  | 77 => ⟨S4x4x4x2048x2048, .f32⟩
  | 78 => ⟨S4x4x4x2048x2048, .f32⟩
  | 79 => ⟨S4x4x128x4x2048, .f32⟩
  | 80 => ⟨S4x2048x4x4x128, .f32⟩
  | 81 => ⟨S2560, .i32⟩
  | 82 => ⟨S_, .i32⟩
  | 83 => ⟨S2560, .i32⟩
  | 84 => ⟨S2560, .i32⟩
  | 85 => ⟨S1x2560, .i32⟩
  | 86 => ⟨S2048x1, .i32⟩
  | 87 => ⟨S2048x2560, .i32⟩
  | 88 => ⟨S2048x2560, .i32⟩
  | 89 => ⟨S2048x2560, .i1⟩
  | 90 => ⟨S1x2560, .i32⟩
  | 91 => ⟨S2048x1, .i32⟩
  | 92 => ⟨S_, .i32⟩
  | 93 => ⟨S2048x1, .i32⟩
  | 94 => ⟨S2048x1, .i32⟩
  | 95 => ⟨S2048x2560, .i32⟩
  | 96 => ⟨S2048x2560, .i32⟩
  | 97 => ⟨S2048x2560, .i1⟩
  | 98 => ⟨S2048x2560, .i1⟩
  | 99 => ⟨S_, .i32⟩
  | 100 => ⟨S_, .f32⟩
  | 101 => ⟨S4x2560x4x128, .f32⟩
  | 102 => ⟨S4x4x2560x2048x4, .f32⟩
  | 103 => ⟨S4x4x4x2048x2560, .f32⟩
  | 104 => ⟨S_, .f32⟩
  | 105 => ⟨S4x4x4x2048x2560, .f32⟩
  | 106 => ⟨S4x4x4x2048x2560, .f32⟩
  | 107 => ⟨S_, .f32⟩
  | 108 => ⟨S_, .f32⟩
  | 109 => ⟨S4x4x4x2048x2560, .i1⟩
  | 110 => ⟨S4x4x4x2048x2560, .f32⟩
  | 111 => ⟨S4x4x4x2048x2560, .f32⟩
  | 112 => ⟨S_, .f32⟩
  | 113 => ⟨S4x4x4x2048, .f32⟩
  | 114 => ⟨S4x4x4x2048x1, .f32⟩
  | 115 => ⟨S4x4x4x2048x2560, .f32⟩
  | 116 => ⟨S4x4x4x2048x2560, .f32⟩
  | 117 => ⟨S4x4x4x2048x2560, .f32⟩
  | 118 => ⟨S_, .f32⟩
  | 119 => ⟨S_, .f32⟩
  | 120 => ⟨S4x4x4x2048x2560, .i1⟩
  | 121 => ⟨S4x4x4x2048x2560, .f32⟩
  | 122 => ⟨S4x4x4x2048x2560, .f32⟩
  | 123 => ⟨S_, .f32⟩
  | 124 => ⟨S4x4x4x2048, .f32⟩
  | 125 => ⟨S4x4x4x2048x1, .f32⟩
  | 126 => ⟨S_, .f32⟩
  | 127 => ⟨S4x4x4x2048x1, .f32⟩
  | _ => ⟨S4x2048x2048, .f32⟩

abbrev hbmTy0_2 (i : Nat) : BufTy := match i % 128 with
  | 0 => ⟨S4x4x4x2048x1, .f32⟩
  | 1 => ⟨S4x4x4x2048x2560, .f32⟩
  | 2 => ⟨S4x4x4x2048x2560, .f32⟩
  | 3 => ⟨S_, .i32⟩
  | 4 => ⟨S_, .f32⟩
  | 5 => ⟨S4x2560x4x128, .f32⟩
  | 6 => ⟨S4x4x128x4x2048, .f32⟩
  | 7 => ⟨S4x2048x4x4x128, .f32⟩
  | 8 => ⟨S4x2048x48, .f32⟩
  | 9 => ⟨S4x2048x48, .f32⟩
  | 10 => ⟨S_, .f32⟩
  | 11 => ⟨S4x2048x48, .f32⟩
  | 12 => ⟨S4x2048x48, .f32⟩
  | 13 => ⟨S_, .f32⟩
  | 14 => ⟨S4x2048x48, .f32⟩
  | 15 => ⟨S4x2048x48, .f32⟩
  | 16 => ⟨S4x2048x4x4x3, .f32⟩
  | 17 => ⟨S4x2048x4x4x1, .f32⟩
  | 18 => ⟨S4x2048x4x4x128, .f32⟩
  | 19 => ⟨S4x2048x4x4x128, .f32⟩
  | 20 => ⟨S4x2048x4x4x1, .f32⟩
  | 21 => ⟨S4x2048x4x4x128, .f32⟩
  | 22 => ⟨S4x2048x4x4x128, .f32⟩
  | 23 => ⟨S4x2048x4x4x128, .f32⟩
  | 24 => ⟨S4x2048x4x4x1, .f32⟩
  | 25 => ⟨S4x2048x4x4x128, .f32⟩
  | 26 => ⟨S4x2048x4x4x128, .f32⟩
  | 27 => ⟨S4x2048x4x4x128, .f32⟩
  | 28 => ⟨S4x2048x2048, .f32⟩
  | 29 => ⟨S4x2048x2048, .bf16⟩
  | _ => ⟨S4x2048x2048, .f32⟩

abbrev hbmTy (i : Nat) : BufTy := match i / 128 with
  | 0 => hbmTy0_0 i
  | 1 => hbmTy0_1 i
  | 2 => hbmTy0_2 i
  | _ => ⟨S4x2048x2048, .f32⟩

abbrev bufTy : (tb : Table) → Fin (tcTables nBuf tb) → BufTy
  | .hbm, ⟨i, _⟩ => hbmTy i
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_c : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst : Ref sig .tc := ⟨.hbm, 31, rfl⟩
abbrev main_v20 : Ref sig .tc := ⟨.hbm, 32, rfl⟩
abbrev main_v21 : Ref sig .tc := ⟨.hbm, 33, rfl⟩
abbrev main_cst_2 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_c_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_c_11 : Ref sig .tc := ⟨.hbm, 86, rfl⟩
abbrev main_call2_v0 : Ref sig .tc := ⟨.hbm, 87, rfl⟩
abbrev main_call2_v1 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_c : Ref sig .tc := ⟨.hbm, 96, rfl⟩
abbrev main_call2_v9 : Ref sig .tc := ⟨.hbm, 97, rfl⟩
abbrev main_call2_v10 : Ref sig .tc := ⟨.hbm, 98, rfl⟩
abbrev main_call2_v11 : Ref sig .tc := ⟨.hbm, 99, rfl⟩
abbrev main_call2_c_0 : Ref sig .tc := ⟨.hbm, 100, rfl⟩
abbrev main_call2_v12 : Ref sig .tc := ⟨.hbm, 101, rfl⟩
abbrev main_call2_v13 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_c_12 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_c_13 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_cst_14 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_v84 : Ref sig .tc := ⟨.hbm, 134, rfl⟩
abbrev main_cst_15 : Ref sig .tc := ⟨.hbm, 135, rfl⟩
abbrev main_call4_v0 : Ref sig .tc := ⟨.hbm, 136, rfl⟩
abbrev main_call4_v1 : Ref sig .tc := ⟨.hbm, 137, rfl⟩
abbrev main_call4_v2 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_v103 : Ref sig .tc := ⟨.hbm, 157, rfl⟩
abbrev main_v104 : Ref sig .tc := ⟨.hbm, 158, rfl⟩
abbrev main_v105 : Ref sig .tc := ⟨.hbm, 159, rfl⟩
abbrev main_c_16 : Ref sig .tc := ⟨.hbm, 160, rfl⟩
abbrev main_v106 : Ref sig .tc := ⟨.hbm, 161, rfl⟩
abbrev main_c_17 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_cst_18 : Ref sig .tc := ⟨.hbm, 180, rfl⟩
abbrev main_v124 : Ref sig .tc := ⟨.hbm, 181, rfl⟩
abbrev main_v125 : Ref sig .tc := ⟨.hbm, 182, rfl⟩
abbrev main_cst_19 : Ref sig .tc := ⟨.hbm, 183, rfl⟩
abbrev main_call5_v0 : Ref sig .tc := ⟨.hbm, 184, rfl⟩
abbrev main_call5_v1 : Ref sig .tc := ⟨.hbm, 185, rfl⟩
abbrev main_call5_v2 : Ref sig .tc := ⟨.hbm, 186, rfl⟩
abbrev main_v126 : Ref sig .tc := ⟨.hbm, 187, rfl⟩
abbrev main_cst_20 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_cst_21 : Ref sig .tc := ⟨.hbm, 194, rfl⟩
abbrev main_call6_v0 : Ref sig .tc := ⟨.hbm, 195, rfl⟩
abbrev main_call6_v1 : Ref sig .tc := ⟨.hbm, 196, rfl⟩
abbrev main_call6_v2 : Ref sig .tc := ⟨.hbm, 197, rfl⟩
abbrev main_v132 : Ref sig .tc := ⟨.hbm, 198, rfl⟩
abbrev main_cst_22 : Ref sig .tc := ⟨.hbm, 199, rfl⟩
abbrev main_v133 : Ref sig .tc := ⟨.hbm, 200, rfl⟩
abbrev main_v134 : Ref sig .tc := ⟨.hbm, 201, rfl⟩
abbrev main_cst_23 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_v140 : Ref sig .tc := ⟨.hbm, 208, rfl⟩
abbrev main_v141 : Ref sig .tc := ⟨.hbm, 209, rfl⟩
abbrev main_c_24 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_v147 : Ref sig .tc := ⟨.hbm, 216, rfl⟩
abbrev main_v148 : Ref sig .tc := ⟨.hbm, 217, rfl⟩
abbrev main_v149 : Ref sig .tc := ⟨.hbm, 218, rfl⟩
abbrev main_v150 : Ref sig .tc := ⟨.hbm, 219, rfl⟩
abbrev main_c_25 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_c_26 : Ref sig .tc := ⟨.hbm, 227, rfl⟩
abbrev main_call7_v0 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_cst_27 : Ref sig .tc := ⟨.hbm, 232, rfl⟩
abbrev main_v160 : Ref sig .tc := ⟨.hbm, 233, rfl⟩
abbrev main_v161 : Ref sig .tc := ⟨.hbm, 234, rfl⟩
abbrev main_cst_28 : Ref sig .tc := ⟨.hbm, 235, rfl⟩
abbrev main_call8_v0 : Ref sig .tc := ⟨.hbm, 236, rfl⟩
abbrev main_call8_v1 : Ref sig .tc := ⟨.hbm, 237, rfl⟩
abbrev main_call8_v2 : Ref sig .tc := ⟨.hbm, 238, rfl⟩
abbrev main_v162 : Ref sig .tc := ⟨.hbm, 239, rfl⟩
abbrev main_cst_29 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_cst_30 : Ref sig .tc := ⟨.hbm, 246, rfl⟩
abbrev main_call9_v0 : Ref sig .tc := ⟨.hbm, 247, rfl⟩
abbrev main_call9_v1 : Ref sig .tc := ⟨.hbm, 248, rfl⟩
abbrev main_call9_v2 : Ref sig .tc := ⟨.hbm, 249, rfl⟩
abbrev main_v168 : Ref sig .tc := ⟨.hbm, 250, rfl⟩
abbrev main_cst_31 : Ref sig .tc := ⟨.hbm, 251, rfl⟩
abbrev main_v169 : Ref sig .tc := ⟨.hbm, 252, rfl⟩
abbrev main_v170 : Ref sig .tc := ⟨.hbm, 253, rfl⟩
abbrev main_cst_32 : Ref sig .tc := ⟨.hbm, 254, rfl⟩
abbrev main_v171 : Ref sig .tc := ⟨.hbm, 255, rfl⟩
abbrev main_v172 : Ref sig .tc := ⟨.hbm, 256, rfl⟩
abbrev main_v173 : Ref sig .tc := ⟨.hbm, 257, rfl⟩
abbrev main_v174 : Ref sig .tc := ⟨.hbm, 258, rfl⟩
abbrev main_c_33 : Ref sig .tc := ⟨.hbm, 259, rfl⟩
abbrev main_call10_v0 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_cst_34 : Ref sig .tc := ⟨.hbm, 266, rfl⟩
abbrev main_v180 : Ref sig .tc := ⟨.hbm, 267, rfl⟩
abbrev main_v181 : Ref sig .tc := ⟨.hbm, 268, rfl⟩
abbrev main_cst_35 : Ref sig .tc := ⟨.hbm, 269, rfl⟩
abbrev main_v182 : Ref sig .tc := ⟨.hbm, 270, rfl⟩
abbrev main_v183 : Ref sig .tc := ⟨.hbm, 271, rfl⟩
abbrev main_v184 : Ref sig .tc := ⟨.hbm, 272, rfl⟩
abbrev main_v185 : Ref sig .tc := ⟨.hbm, 273, rfl⟩
abbrev main_v186 : Ref sig .tc := ⟨.hbm, 274, rfl⟩
abbrev main_v187 : Ref sig .tc := ⟨.hbm, 275, rfl⟩
abbrev main_v188 : Ref sig .tc := ⟨.hbm, 276, rfl⟩
abbrev main_v189 : Ref sig .tc := ⟨.hbm, 277, rfl⟩
abbrev main_v190 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_v197 : Ref sig .tc := ⟨.hbm, 285, rfl⟩

abbrev nD : Nat := 1
abbrev τ : Topo := Topo.v7x

variable {F : FTy → Type} [FloatOps F]
-- ==== Proof.InProj.lean ====
/- The input projection's three calls (the RMS norm with the branch gates, the main projection, the merge gates), each read as
   the array it leaves: every block's product, element by element. -/
module

public import proofs.«01_k».proof.Proof.Gen.KernelIdeal.Frame
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

namespace Cert.KernelIdeal.InProj

open Cert.KernelIdeal Cert.KernelIdeal.Gen
open Idealize.ShloMosaic Idealize.ShloMosaic.TcCoe Idealize.SL.Sem
open Idealize.ShloMosaic.Pipeline (Dat)

/-- The main projection's block product, element by element. -/
def mainG (u : S8192x4096.Idx → EReal) (w : S17456x4096.Idx → EReal) (s : S1x9216.Idx → EReal) (j : S8192x9216.Idx) : EReal :=
  (∑ k : Fin 4096, u (ix2 (j 0) k) * w (ix2 ⟨(j 1).val, by have : (j 1).val < 9216 := (j 1).isLt; omega⟩ k)) * s (ix2 0 (j 1))

variable (V : (c : Dev nD) → (b : Ref sig .tc) → Buf (Elt Ideal) ((c : Thread nD τ).loc b))

/-- The normalised tokens, the branch gates and the merge gates, of the flattened tokens and the transposed weight. -/
def uG (x : S8192x4096.Idx → EReal) (g : S1x4096.Idx → EReal) (j : S8192x4096.Idx) : EReal :=
  x j * Ideal.rsqrt (Ideal.div (∑ l : Fin 4096, x (ix2 (j 0) l) * x (ix2 (j 0) l)) (Ideal.ofBits .f32 0x45800000#32)
      + Ideal.ofBits .f32 0x358637BD#32) * g (ix2 0 (j 1))
def gateG (x : S8192x4096.Idx → EReal) (g : S1x4096.Idx → EReal) (w : S17456x4096.Idx → EReal) (j : S8192x128.Idx) : EReal :=
  ∑ k : Fin 4096, uG x g (ix2 (j 0) k) * w (ix2 ⟨9216 + (j 1).val, by have : (j 1).val < 128 := (j 1).isLt; omega⟩ k)
def mergeG (u : S8192x4096.Idx → EReal) (w : S17456x4096.Idx → EReal) (j : S8192x8192.Idx) : EReal :=
  ∑ k : Fin 4096, u (ix2 (j 0) k) * w (ix2 ⟨9264 + (j 1).val, by have : (j 1).val < 8192 := (j 1).isLt; omega⟩ k)

/-! ## The norm and the branch gates -/

theorem pay01_apply (x0 : Vec Ideal S512x4096 .f32) (x1 : Vec Ideal S1x4096 .f32) (y : S512x4096.Idx) :
    k0_pay1 x0 x1 y = x0 y * Ideal.rsqrt (Ideal.div (∑ l : Fin 4096, x0 (ix2 (y 0) l) * x0 (ix2 (y 0) l)) (Ideal.ofBits .f32 0x45800000#32)
      + Ideal.ofBits .f32 0x358637BD#32) * x1 (ix2 0 (y 1)) := by
  pointwise [k0_pay1]

theorem pay02_apply (x0 : Vec Ideal S512x4096 .f32) (x1 : Vec Ideal S1x4096 .f32) (x2 : Vec Ideal S128x4096 .f32) (y : S512x128.Idx) :
    k0_pay2 x0 x1 x2 y = ∑ k : Fin 4096, k0_pay1 x0 x1 (ix2 (y 0) k) * x2 (ix2 (y 1) k) := by
  pointwise [k0_pay2]

theorem idx0 : ∀ t : Fin cfg0.N, win0_0.index t = ![t.val, 0] ∧ win0_1.index t = ![0, 0] ∧ win0_2.index t = ![9216, 0]
    ∧ win0_3.index t = ![t.val, 0] ∧ win0_4.index t = ![t.val, 0] :=
  (by decide +kernel : ∀ t : Fin grid0.N, _)

/-- A block of rows of the norm is the norm of the block's rows: a row's mean square is within the block. -/
theorem blk_norm (c : Dev nD) (t : Fin cfg0.N) (y : S512x4096.Idx) :
    k0_pay1 (iblk0 V c 0 t) (iblk0 V c 1 t) y = uG (V c main_v0) (V c main_v8) (((cfg0.win 3).rect t).emb y) := by
  have hx (k : Fin 4096) : iblk0 V c 0 t (ix2 (y 0) k) = V c main_v0 (ix2 ((((cfg0.win 3).rect t).emb y) 0) k) := by
    blk_ext [iblk0, idx0 t]
  have hy : iblk0 V c 0 t y = V c main_v0 (((cfg0.win 3).rect t).emb y) := by
    blk_ext [iblk0, idx0 t]
    show (y 1).val = 0 * 4096 + (y 1).val; omega
  have hg : iblk0 V c 1 t (ix2 0 (y 1)) = V c main_v8 (ix2 0 ((((cfg0.win 3).rect t).emb y) 1)) := by
    blk_ext [iblk0, idx0 t]
    show (y 1).val = 0 * 4096 + (y 1).val; omega
  rw [pay01_apply, hy, hg]
  simp only [hx]
  rfl

theorem arr0_3 (c : Dev nD) : (dat0 V c).arrAt 3 cfg0.N = uG (V c main_v0) (V c main_v8) := by
  refine (dat0 V c).arrAt_eq_of_covers 3 _ (by decide +kernel) fun t hf y => ?_
  blk_simp
  rw [after0_3]
  frame_out
  exact blk_norm V c t y

theorem arr0_4 (c : Dev nD) : (dat0 V c).arrAt 4 cfg0.N = gateG (V c main_v0) (V c main_v8) (V c main_v2) := by
  refine (dat0 V c).arrAt_eq_of_covers 4 _ (by decide +kernel) fun t hf y => ?_
  blk_simp
  rw [after0_4]
  frame_out
  rw [pay02_apply]
  unfold gateG
  change @Eq EReal _ _
  refine Finset.sum_congr rfl fun k _ => ?_
  congr 1
  · rw [blk_norm]
    congr 1
    blk_ext [idx0 t]
    show 0 * 4096 + k.val = k.val; omega
  · blk_ext [iblk0, idx0 t]
    · exact (win0_2.rect_emb_val_off t (ix2 (y 1) k) 0).trans (by rw [(idx0 t).2.2.1]; rfl)
    · exact (win0_2.rect_emb_val_off t (ix2 (y 1) k) 1).trans (by rw [(idx0 t).2.2.1]; show 0 + k.val = _; omega)

/-! ## The main projection -/

theorem pay1_apply (x0 : Vec Ideal S2048x4096 .bf16) (x1 : Vec Ideal S512x4096 .f32) (x2 : Vec Ideal S1x512 .f32) (y : S2048x512.Idx) :
    k1_pay1 x0 x1 x2 y = (∑ k : Fin 4096, x0 (ix2 (y 0) k) * x1 (ix2 (y 1) k)) * x2 (ix2 0 (y 1)) := by
  pointwise [k1_pay1]

theorem idx1 : ∀ t : Fin cfg1.N, win1_0.index t = ![t.val / 18, 0] ∧ win1_1.index t = ![512 * (t.val % 18), 0]
    ∧ win1_2.index t = ![0, t.val % 18] ∧ win1_3.index t = ![t.val / 18, t.val % 18] :=
  (by decide +kernel : ∀ t : Fin grid1.N, _)

theorem arr1 (c : Dev nD) : (dat1 V c).arrAt 3 cfg1.N = mainG (V c main_v9_0) (V c main_v2) (V c main_v10) := by
  refine (dat1 V c).arrAt_eq_of_covers 3 _ (by decide +kernel) fun t hf y => ?_
  blk_simp
  rw [after1_3]
  frame_out
  rw [pay1_apply]
  unfold mainG
  congr 1
  · refine Finset.sum_congr rfl fun k _ => ?_
    congr 1
    · blk_ext [iblk1, idx1 t]
    · blk_ext [iblk1, idx1 t]
      · exact (win1_1.rect_emb_val_off t (ix2 (y 1) k) 0).trans (by rw [(idx1 t).2.1]; show 512 * (t.val % 18) + (y 1).val = _; omega)
      · exact (win1_1.rect_emb_val_off t (ix2 (y 1) k) 1).trans (by rw [(idx1 t).2.1]; show 0 + k.val = _; omega)
  · blk_ext [iblk1, idx1 t]

/-! ## The merge gates -/

theorem pay2_apply (x0 : Vec Ideal S2048x4096 .bf16) (x1 : Vec Ideal S512x4096 .f32) (y : S2048x512.Idx) :
    k2_pay1 x0 x1 y = ∑ k : Fin 4096, x0 (ix2 (y 0) k) * x1 (ix2 (y 1) k) := by
  pointwise [k2_pay1]

theorem idx2 : ∀ t : Fin cfg2.N, win2_0.index t = ![t.val / 16, 0] ∧ win2_1.index t = ![9264 + 512 * (t.val % 16), 0]
    ∧ win2_2.index t = ![t.val / 16, t.val % 16] :=
  (by decide +kernel : ∀ t : Fin grid2.N, _)

theorem arr2 (c : Dev nD) : (dat2 V c).arrAt 2 cfg2.N = mergeG (V c main_v9_0) (V c main_v2) := by
  refine (dat2 V c).arrAt_eq_of_covers 2 _ (by decide +kernel) fun t hf y => ?_
  blk_simp
  rw [after2_2]
  frame_out
  rw [pay2_apply]
  unfold mergeG
  change @Eq EReal _ _
  refine Finset.sum_congr rfl fun k _ => ?_
  congr 1
  · blk_ext [iblk2, idx2 t]
  · blk_ext [iblk2, idx2 t]
    · exact (win2_1.rect_emb_val_off t (ix2 (y 1) k) 0).trans (by rw [(idx2 t).2.1]; show 9264 + 512 * (t.val % 16) + (y 1).val = _; omega)
    · exact (win2_1.rect_emb_val_off t (ix2 (y 1) k) 1).trans (by rw [(idx2 t).2.1]; show 0 + k.val = _; omega)

end Cert.KernelIdeal.InProj
end
-- ==== Proof.InProjMath.lean ====
/- The input projection of the layer over the extended reals: the RMS norm of a token, and a column of its product with
   the combined weight. Both programs are read against these. -/
module

public import Idealize.ShloMosaic.PureOps.Ideal
public import Idealize.ShloMosaic.Lib.Pointwise

@[expose] public section

noncomputable section

namespace Cert.InProj

open Idealize.ShloMosaic

/-- The tokens, the norm's weight and the combined weight, as the layer takes them. -/
abbrev X : Type := (⟨3, ![4, 2048, 4096]⟩ : Shape).Idx → EReal
abbrev G : Type := (⟨2, ![1, 4096]⟩ : Shape).Idx → EReal
abbrev Wt : Type := (⟨3, ![1, 4096, 17456]⟩ : Shape).Idx → EReal

/-- The RMS norm of token `(b, s)` at channel `k`: divided by the root of the mean square (with the layer's epsilon), times
    the weight. -/
def norm (x : X) (g : G) (b : Fin 4) (s : Fin 2048) (k : Fin 4096) : EReal :=
  x (ix3 b s k)
    * Ideal.rsqrt (Ideal.div (∑ l : Fin 4096, x (ix3 b s l) * x (ix3 b s l)) (Ideal.ofBits .f32 0x45800000#32)
        + Ideal.ofBits .f32 0x358637BD#32)
    * g (ix2 0 k)

/-- Column `n` of the projection of token `(b, s)`. -/
def col (x : X) (g : G) (w : Wt) (b : Fin 4) (s : Fin 2048) (n : Fin 17456) : EReal :=
  ∑ k : Fin 4096, norm x g b s k * w (ix3 0 k n)

/-- The token in row `r` of the flattened tokens. -/
abbrev bOf (r : Fin 8192) : Fin 4 := ⟨r.val / 2048, by omega⟩
abbrev sOf (r : Fin 8192) : Fin 2048 := ⟨r.val % 2048, by omega⟩

/-- The branch gates' columns (48, and the 80 that follow them in the weight). -/
def gates (x : X) (g : G) (w : Wt) (r : Fin 8192) (n : Fin 128) : EReal := col x g w (bOf r) (sOf r) ⟨9216 + n.val, by omega⟩

/-- What a column of the main projection is multiplied by: the queries carry the attention's scale. -/
def scale (n : Fin 9216) : EReal := if 4096 ≤ n.val ∧ n.val < 6144 then Ideal.ofBits .f32 0x3E0293EE#32 else 1

def main (x : X) (g : G) (w : Wt) (r : Fin 8192) (n : Fin 9216) : EReal :=
  col x g w (bOf r) (sOf r) ⟨n.val, by omega⟩ * scale n

/-- The two merge gates, side by side. -/
def merge (x : X) (g : G) (w : Wt) (r : Fin 8192) (n : Fin 8192) : EReal := col x g w (bOf r) (sOf r) ⟨9264 + n.val, by omega⟩

theorem col_congr (x : X) (g : G) (w : Wt) (b : Fin 4) (s : Fin 2048) {n n' : Fin 17456} (h : n.val = n'.val) :
    col x g w b s n = col x g w b s n' := congrArg _ (Fin.ext h)

theorem main_scaled (x : X) (g : G) (w : Wt) (r : Fin 8192) (n : Fin 9216) (h : 4096 ≤ n.val ∧ n.val < 6144) (n' : Fin 17456)
    (hn : n'.val = n.val) : col x g w (bOf r) (sOf r) n' * Ideal.ofBits .f32 0x3E0293EE#32 = main x g w r n := by
  rw [main, scale, if_pos h]; exact congrArg (· * _) (col_congr _ _ _ _ _ hn)

theorem main_plain (x : X) (g : G) (w : Wt) (r : Fin 8192) (n : Fin 9216) (h : ¬(4096 ≤ n.val ∧ n.val < 6144)) (n' : Fin 17456)
    (hn : n'.val = n.val) : col x g w (bOf r) (sOf r) n' = main x g w r n := by
  rw [main, scale, if_neg h, mul_one]; exact col_congr _ _ _ _ _ hn

end Cert.InProj

end
-- ==== Proof.InProjRun.lean ====
/- The input projection's program run: what the host operations before the calls prepare, and the contents the three calls
   leave, composed into the projection's columns. -/
module

public import proofs.«01_k».proof.Proof.InProj
public import proofs.«01_k».proof.Proof.InProjMath
public import Idealize.ShloMosaic.Lib.Routing.OpsSet
public import Idealize.ShloMosaic.Lib.Routing.OpsPair

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What the host prepares -/

/-- The arguments, at their shapes over the extended reals. -/
abbrev argX (c : Dev nD) : Cert.InProj.X := m ((c : Thread nD τ).loc main_arg0)
abbrev argG (c : Dev nD) : Cert.InProj.G := m ((c : Thread nD τ).loc main_arg1)
abbrev argW (c : Dev nD) : Cert.InProj.Wt := m ((c : Thread nD τ).loc main_arg2)

theorem host_x (c : Dev nD) : (W1 m ρ c (Proc.devRef .tc main_v0) : S8192x4096.Idx → EReal)
    = fun j => argX m c (ix3 (Cert.InProj.bOf (j 0)) (Cert.InProj.sOf (j 0)) (j 1)) := by
  show StableHlo.after hostOps0 _ _ = _
  after_results
  funext j
  pointwise

theorem host_g (c : Dev nD) : (W1 m ρ c (Proc.devRef .tc main_v8) : S1x4096.Idx → EReal) = fun j => argG m c (ix2 0 (j 1)) := by
  show StableHlo.after hostOps0 _ _ = _
  after_results
  funext j
  pointwise

theorem host_w (c : Dev nD) : (W1 m ρ c (Proc.devRef .tc main_v2) : S17456x4096.Idx → EReal) = fun j => argW m c (ix3 0 (j 1) (j 0)) := by
  show StableHlo.after hostOps0 _ _ = _
  after_results
  funext j
  pointwise

/-- Where an update of the scale lands: update `k` at column `4096 + k`. -/
theorem lands (idx : IVec S1 32) (hidx : ∀ i, idx i = 4096#32) (k : S2048.Idx) (ι : S9216.Idx) :
    scatter_S9216_S1_S2048_0_n_0_0.resultIdx? k idx = some ι ↔ 4096 + (k 0).val = (ι 0).val := by
  rw [Idealize.ShloMosaic.Routing.resultIdx?_eq_some]
  have hs : scatter_S9216_S1_S2048_0_n_0_0.start k idx 0 = 4096 := by
    unfold ScatterDims.start
    rw [dif_pos (by decide), hidx]; rfl
  have hw : scatter_S9216_S1_S2048_0_n_0_0.window k 0 = (k 0).val := by
    unfold ScatterDims.window
    rw [dif_pos (by decide)]; rfl
  constructor
  · intro h
    have := h 0
    rw [hs, hw] at this
    omega
  · intro h a
    obtain rfl : a = 0 := Subsingleton.elim _ _
    rw [hs, hw]
    omega

theorem host_scale (c : Dev nD) : (W1 m ρ c (Proc.devRef .tc main_v6) : S9216.Idx → EReal) = fun j => Cert.InProj.scale (j 0) := by
  show StableHlo.after hostOps0 _ _ = _
  after_results
  funext j
  have hidx : ∀ i, (broadcastInDim S1 ![] bcast_S_S1 (constantI S_ 32 4096#32) : IVec S1 32) i = 4096#32 := fun i => rfl
  unfold Cert.InProj.scale
  split
  · next h =>
    refine Idealize.ShloMosaic.Routing.scatter_set_hit _ _ _ _ j _ (fun k _ => rfl)
      (fun a => ⟨(j 0).val - 4096, ?_⟩) ((lands _ hidx _ _).2 ?_)
    · obtain rfl : a = 0 := Subsingleton.elim _ _
      show (j 0).val - 4096 < 2048; omega
    · show 4096 + ((j 0).val - 4096) = (j 0).val; omega
  · next h =>
    rw [Idealize.ShloMosaic.Routing.scatter_set_miss]
    · exact Ideal.ofBits_one_f32
    · intro k hk
      have := (lands _ hidx _ _).1 hk
      have hk : (k 0).val < 2048 := (k 0).isLt
      exact h ⟨by show 4096 ≤ (j 0).val; omega, by show (j 0).val < 6144; omega⟩

/-! ## The contents at the calls' ends -/

theorem u_eq (c : Dev nD) : (uG (W1 m ρ c (Proc.devRef .tc main_v0)) (W1 m ρ c (Proc.devRef .tc main_v8)) : S8192x4096.Idx → EReal)
    = fun j => Cert.InProj.norm (argX m c) (argG m c) (Cert.InProj.bOf (j 0)) (Cert.InProj.sOf (j 0)) (j 1) := by
  rw [host_x, host_g]
  funext j
  rfl

theorem W4_u (c : Dev nD) : (W4 m ρ c (Proc.devRef .tc main_v9_0) : S8192x4096.Idx → EReal)
    = fun j => Cert.InProj.norm (argX m c) (argG m c) (Cert.InProj.bOf (j 0)) (Cert.InProj.sOf (j 0)) (j 1) :=
  (W4_of m ρ c main_v9_0 (by decide)).trans ((W3_of m ρ c main_v9_0 (by decide)).trans
    ((W2_arr m ρ c 3).trans ((arr0_3 (V1 m ρ) c).trans (u_eq m ρ c))))

theorem W3_u (c : Dev nD) : (W3 m ρ c (Proc.devRef .tc main_v9_0) : S8192x4096.Idx → EReal)
    = fun j => Cert.InProj.norm (argX m c) (argG m c) (Cert.InProj.bOf (j 0)) (Cert.InProj.sOf (j 0)) (j 1) :=
  (W3_of m ρ c main_v9_0 (by decide)).trans
    ((W2_arr m ρ c 3).trans ((arr0_3 (V1 m ρ) c).trans (u_eq m ρ c)))

theorem W3_w (c : Dev nD) : (W3 m ρ c (Proc.devRef .tc main_v2) : S17456x4096.Idx → EReal) = fun j => argW m c (ix3 0 (j 1) (j 0)) :=
  (W3_of m ρ c main_v2 (by decide)).trans ((W2_of m ρ c main_v2 (by decide)).trans (host_w m ρ c))

theorem W4_w (c : Dev nD) : (W4 m ρ c (Proc.devRef .tc main_v2) : S17456x4096.Idx → EReal) = fun j => argW m c (ix3 0 (j 1) (j 0)) :=
  (W4_of m ρ c main_v2 (by decide)).trans (W3_w m ρ c)

theorem W3_scale (c : Dev nD) : (W3 m ρ c (Proc.devRef .tc main_v10) : S1x9216.Idx → EReal) = fun j => Cert.InProj.scale (j 1) := by
  show StableHlo.after hostOps1 _ _ = _
  after_results
  rw [show W2 m ρ c (Proc.devRef .tc main_v6) = _ from (W2_of m ρ c main_v6 (by decide)).trans (host_scale m ρ c)]
  funext j
  pointwise

theorem W5_gates (c : Dev nD) : (W5 m ρ c (Proc.devRef .tc main_v9_1) : S8192x128.Idx → EReal)
    = fun j => Cert.InProj.gates (argX m c) (argG m c) (argW m c) (j 0) (j 1) := by
  refine (W5_of m ρ c main_v9_1 (by decide)).trans ((W4_of m ρ c main_v9_1 (by decide)).trans ((W3_of m ρ c main_v9_1 (by decide)).trans
    ((W2_arr m ρ c 4).trans ((arr0_4 (V1 m ρ) c).trans ?_))))
  show gateG (W1 m ρ c (Proc.devRef .tc main_v0)) (W1 m ρ c (Proc.devRef .tc main_v8)) (W1 m ρ c (Proc.devRef .tc main_v2)) = _
  unfold gateG
  rw [u_eq, host_w]
  rfl

theorem W5_main (c : Dev nD) : (W5 m ρ c (Proc.devRef .tc main_v11) : S8192x9216.Idx → EReal)
    = fun j => Cert.InProj.main (argX m c) (argG m c) (argW m c) (j 0) (j 1) := by
  refine (W5_of m ρ c main_v11 (by decide)).trans ((W4_arr m ρ c 3).trans ((arr1 (V3 m ρ) c).trans ?_))
  show mainG (W3 m ρ c (Proc.devRef .tc main_v9_0)) (W3 m ρ c (Proc.devRef .tc main_v2)) (W3 m ρ c (Proc.devRef .tc main_v10)) = _
  rw [W3_u, W3_w, W3_scale]
  rfl

theorem W5_merge (c : Dev nD) : (W5 m ρ c (Proc.devRef .tc main_v12) : S8192x8192.Idx → EReal)
    = fun j => Cert.InProj.merge (argX m c) (argG m c) (argW m c) (j 0) (j 1) := by
  refine (W5_arr m ρ c 2).trans ((arr2 (V4 m ρ) c).trans ?_)
  show mergeG (W4 m ρ c (Proc.devRef .tc main_v9_0)) (W4 m ρ c (Proc.devRef .tc main_v2)) = _
  rw [W4_u, W4_w]
  rfl

/-! ## The run -/

set_option backward.isDefEq.respectTransparency.types false in
/-- The program ends with every buffer at the contents its calls leave. -/
theorem ends : θ_run defs (onTc (τ := τ) (main (F := Ideal))) ⟨m, fun _ => 0, ρ⟩
    (fun r => ∀ c : Dev nD, ∀ b ∈ Pipeline.ucRefs τ sig, r.2.mem (((c : Thread nD τ)).1, b) = W5 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h _ => h)

/-- The program ends with the projection's three groups of columns, its arguments unchanged. -/
theorem run : θ_run defs (onTc (τ := τ) (main (F := Ideal))) ⟨m, fun _ => 0, ρ⟩ fun r => ∀ c : Dev nD,
    r.2.mem ((c.tc : Thread nD τ).loc main_v9_1) = (fun j => Cert.InProj.gates (argX m c) (argG m c) (argW m c) (j 0) (j 1))
    ∧ r.2.mem ((c.tc : Thread nD τ).loc main_v11) = (fun j => Cert.InProj.main (argX m c) (argG m c) (argW m c) (j 0) (j 1))
    ∧ r.2.mem ((c.tc : Thread nD τ).loc main_v12) = (fun j => Cert.InProj.merge (argX m c) (argG m c) (argW m c) (j 0) (j 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  (θ_run defs _ _).mono (fun _ h c =>
    ⟨(h c _ (mem_uc main_v9_1 (by decide))).trans (W5_gates m ρ c),
     (h c _ (mem_uc main_v11 (by decide))).trans (W5_main m ρ c),
     (h c _ (mem_uc main_v12 (by decide))).trans (W5_merge m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c)⟩) (ends m ρ)

end Cert.KernelIdeal.InProj

end
-- ==== Proof.InProjRef.lean ====
/- The reference of the input projection, run and read element by element. -/
module

public import proofs.«01_k».proof.Proof.Gen.ReferenceIdeal
public import proofs.«01_k».proof.Proof.InProjMath
public import Idealize.ShloMosaic.Lib.Claim
public import Idealize.ShloMosaic.Lib.Pipeline.ValueKit

@[expose] public section

set_option maxRecDepth 16384

noncomputable section

namespace Cert.ReferenceIdeal.InProj

open Cert.ReferenceIdeal
open Idealize.ShloMosaic Idealize.ShloMosaic.TcCoe Idealize.SL.Sem

variable (m : (ℓ : Loc nD τ sig) → Buf (Elt Ideal) ℓ) (ρ : Dev nD → PrngReg)

/-- The first result: the branch gates' columns. -/
theorem run_gates : θ_run defs (onTc (τ := τ) (main (F := Ideal))) ⟨m, fun _ => 0, ρ⟩ fun r => ∀ c : Dev nD,
    r.2.mem ((c.tc : Thread nD τ).loc main_v29) = fun j => Cert.InProj.gates (m ((c.tc : Thread nD τ).loc main_arg0))
      (m ((c.tc : Thread nD τ).loc main_arg1)) (m ((c.tc : Thread nD τ).loc main_arg2)) (j 0) (j 1) := by
  hlo_run
  funext j
  pointwise
  split
  · rfl
  · exact Cert.InProj.col_congr _ _ _ _ _ (n := ⟨9264 + ((j 1).val - 48), by have : (j 1).val < 128 := (j 1).isLt; omega⟩)
      (by show 9264 + ((j 1).val - 48) = 9216 + (j 1).val; omega)

/-- The second result: the main projection's columns, the queries' scaled. -/
theorem run_main : θ_run defs (onTc (τ := τ) (main (F := Ideal))) ⟨m, fun _ => 0, ρ⟩ fun r => ∀ c : Dev nD,
    r.2.mem ((c.tc : Thread nD τ).loc main_v31) = fun j => Cert.InProj.main (m ((c.tc : Thread nD τ).loc main_arg0))
      (m ((c.tc : Thread nD τ).loc main_arg1)) (m ((c.tc : Thread nD τ).loc main_arg2)) (j 0) (j 1) := by
  hlo_run
  funext j
  pointwise
  have hj : (j 1).val < 9216 := (j 1).isLt
  split
  · next h =>
    split
    · next h' => exact Cert.InProj.main_plain _ _ _ _ _ (fun q => absurd q.1 (by show ¬4096 ≤ (j 1).val; omega)) ⟨(j 1).val, by omega⟩ rfl
    · next h' => exact Cert.InProj.main_scaled _ _ _ _ _ ⟨by show 4096 ≤ (j 1).val; omega, h⟩ ⟨4096 + ((j 1).val - 4096), by omega⟩ (by show 4096 + ((j 1).val - 4096) = (j 1).val; omega)
  · next h => exact Cert.InProj.main_plain _ _ _ _ _ (fun q => absurd q.2 (by show ¬(j 1).val < 6144; omega)) ⟨6144 + ((j 1).val - 6144), by omega⟩ (by show 6144 + ((j 1).val - 6144) = (j 1).val; omega)

/-- The third result: the two merge gates. -/
theorem run_merge : θ_run defs (onTc (τ := τ) (main (F := Ideal))) ⟨m, fun _ => 0, ρ⟩ fun r => ∀ c : Dev nD,
    r.2.mem ((c.tc : Thread nD τ).loc main_v33) = fun j => Cert.InProj.merge (m ((c.tc : Thread nD τ).loc main_arg0))
      (m ((c.tc : Thread nD τ).loc main_arg1)) (m ((c.tc : Thread nD τ).loc main_arg2)) (j 0) (j 1) := by
  hlo_run
  funext j
  pointwise
  split
  · rfl
  · exact Cert.InProj.col_congr _ _ _ _ _ (n := ⟨13360 + ((j 1).val - 4096), by have : (j 1).val < 8192 := (j 1).isLt; omega⟩)
      (by show 13360 + ((j 1).val - 4096) = 9264 + (j 1).val; omega)

/-- The arguments are left as they were. -/
theorem run_args : θ_run defs (onTc (τ := τ) (main (F := Ideal))) ⟨m, fun _ => 0, ρ⟩ fun r => ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  hlo_run

end Cert.ReferenceIdeal.InProj

end
-- ==== Proof.InProjClaims.lean ====
/- The claims about the input projection. -/
module

public import proofs.«01_k».proof.Defs
public import proofs.«01_k».proof.Proof.Gen.Kernel.Frame
public import proofs.«01_k».proof.Proof.InProjRun
public import proofs.«01_k».proof.Proof.InProjRef

@[expose] public section

noncomputable section

namespace Cert.Proof.InProj

open Idealize.ShloMosaic Idealize.ShloMosaic.TcCoe Idealize.SL.Sem

theorem frame_p : Cert.quiescent_Kernel := fun m g _ => Cert.Kernel.Gen.frame m g
theorem frame_pi : Cert.quiescent_KernelIdeal := fun m g _ => Cert.KernelIdeal.Gen.frame m g
theorem frame_ri : Cert.quiescent_ReferenceIdeal := fun m g _ =>
  (θ_run Cert.ReferenceIdeal.defs _ _).mono (fun r h => ⟨h, Idealize.ShloMosaic.sem_eq_zero_of_no_sems (by decide) r.2⟩)
    (Cert.ReferenceIdeal.InProj.run_args m g)

/-- Both programs end with the same three groups of columns of the projection. -/
theorem value : Cert.algebraic_KernelIdeal_ReferenceIdeal := by
  intro m g m' g' _ hag
  refine ⟨_, _, _, Cert.KernelIdeal.InProj.run m g, ?_⟩
  refine θ_run_mono (θ_run_and (Cert.ReferenceIdeal.InProj.run_gates m' g')
    (θ_run_and (Cert.ReferenceIdeal.InProj.run_main m' g')
      (θ_run_and (Cert.ReferenceIdeal.InProj.run_merge m' g') (Cert.ReferenceIdeal.InProj.run_args m' g')))) ?_
  rintro r ⟨h1, h2, h3, h4⟩ c
  obtain ⟨e0, e1, e2⟩ := hag c
  refine ⟨(h1 c).trans ?_, (h2 c).trans ?_, (h3 c).trans ?_, h4 c⟩ <;> (rw [e0, e1, e2]; rfl)

end Cert.Proof.InProj

end
-- ==== Proof.TailMath.lean ====
/- The merge of the two branches, the output projection, the two norms and the MLP's first product over the extended reals,
   token by token. Both programs are read against these. -/
module

public import Idealize.ShloMosaic.PureOps.Ideal
public import Idealize.ShloMosaic.Lib.Pointwise

@[expose] public section

noncomputable section

namespace Cert.Tail

open Idealize.ShloMosaic

/-- The arguments, as the layer takes them (the merge gates as the projection leaves them). -/
structure Args where
  x : (⟨3, ![4, 2048, 4096]⟩ : Shape).Idx → EReal
  conv : (⟨3, ![4, 2048, 2048]⟩ : Shape).Idx → EReal
  attn : (⟨3, ![4, 2048, 2048]⟩ : Shape).Idx → EReal
  gates : (⟨2, ![8192, 8192]⟩ : Shape).Idx → EReal
  wConv : (⟨3, ![1, 2048, 4096]⟩ : Shape).Idx → EReal
  wAttn : (⟨3, ![1, 2048, 4096]⟩ : Shape).Idx → EReal
  wOut : (⟨3, ![1, 4096, 4096]⟩ : Shape).Idx → EReal
  g1 : (⟨2, ![1, 4096]⟩ : Shape).Idx → EReal
  g2 : (⟨2, ![1, 4096]⟩ : Shape).Idx → EReal
  wUp : (⟨3, ![1, 4096, 16384]⟩ : Shape).Idx → EReal

/-- The token in row `r` of the flattened tokens. -/
abbrev bOf (r : Fin 8192) : Fin 4 := ⟨r.val / 2048, by omega⟩
abbrev sOf (r : Fin 8192) : Fin 2048 := ⟨r.val % 2048, by omega⟩

/-- A row scaled by the reciprocal root of its mean square (with the layer's epsilon). -/
def scaled (v : Fin 4096 → EReal) (k : Fin 4096) : EReal :=
  v k * Ideal.rsqrt (Ideal.div (∑ l : Fin 4096, v l * v l) (Ideal.ofBits .f32 0x45800000#32) + Ideal.ofBits .f32 0x358637BD#32)

variable (a : Args) (b : Fin 4) (s : Fin 2048)

/-- The row of token `(b, s)` in the flattened tokens. -/
abbrev rowOf (b : Fin 4) (s : Fin 2048) : Fin 8192 := ⟨b.val * 2048 + s.val, by omega⟩

theorem rowOf_eq (r : Fin 8192) : rowOf (bOf r) (sOf r) = r := Fin.ext (by show r.val / 2048 * 2048 + r.val % 2048 = r.val; omega)

/-- The branches' outputs, each under its gate. -/
def merged (n : Fin 4096) : EReal :=
  Ideal.logistic (a.gates (ix2 (rowOf b s) ⟨n.val, by omega⟩)) * (∑ k : Fin 2048, a.conv (ix3 b s k) * a.wConv (ix3 0 k n))
    + Ideal.logistic (a.gates (ix2 (rowOf b s) ⟨4096 + n.val, by omega⟩)) * (∑ k : Fin 2048, a.attn (ix3 b s k) * a.wAttn (ix3 0 k n))

def mixed (n : Fin 4096) : EReal := ∑ k : Fin 4096, merged a b s k * a.wOut (ix3 0 k n)

/-- The residual stream after the mixers. -/
def x1 (n : Fin 4096) : EReal := a.x (ix3 b s n) + scaled (mixed a b s) n * a.g1 (ix2 0 n)

def h (n : Fin 4096) : EReal := scaled (x1 a b s) n * a.g2 (ix2 0 n)

/-- The MLP's hidden values: the squared positive part of a product's column. -/
def hidden (n : Fin 16384) : EReal := max (∑ k : Fin 4096, h a b s k * a.wUp (ix3 0 k n)) 0 * max (∑ k : Fin 4096, h a b s k * a.wUp (ix3 0 k n)) 0

end Cert.Tail

end
-- ==== Proof.Tail.lean ====
/- The four calls of the merge, the output projection, the norms and the MLP's first product, each read as the array it leaves:
   every block, element by element. -/
module

public import proofs.«01_k».proof.Proof.Gen.TailIdeal.Frame
public import proofs.«01_k».proof.Proof.TailMath
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

namespace Cert.TailIdeal.Tail

open Cert.TailIdeal Cert.TailIdeal.Gen
open Idealize.ShloMosaic Idealize.ShloMosaic.TcCoe Idealize.SL.Sem
open Idealize.ShloMosaic.Pipeline (Dat)

/-! ## What the calls leave, of the arrays they read -/

def mergeG (u v : S8192x2048.Idx → EReal) (w z : S2048x4096.Idx → EReal) (g : S8192x8192.Idx → EReal) (j : S8192x4096.Idx) : EReal :=
  Ideal.logistic (g (ix2 (j 0) ⟨(j 1).val, by have : (j 1).val < 4096 := (j 1).isLt; omega⟩)) * (∑ k : Fin 2048, u (ix2 (j 0) k) * w (ix2 k (j 1)))
    + Ideal.logistic (g (ix2 (j 0) ⟨4096 + (j 1).val, by have : (j 1).val < 4096 := (j 1).isLt; omega⟩)) * (∑ k : Fin 2048, v (ix2 (j 0) k) * z (ix2 k (j 1)))

def mixG (u : S8192x4096.Idx → EReal) (w : S4096x4096.Idx → EReal) (j : S8192x4096.Idx) : EReal :=
  ∑ k : Fin 4096, u (ix2 (j 0) k) * w (ix2 k (j 1))

def resG (x z : S8192x4096.Idx → EReal) (g : S1x4096.Idx → EReal) (j : S8192x4096.Idx) : EReal :=
  x (ix2 (j 0) (j 1)) + Cert.Tail.scaled (fun k => z (ix2 (j 0) k)) (j 1) * g (ix2 0 (j 1))

def normG (x z : S8192x4096.Idx → EReal) (g g' : S1x4096.Idx → EReal) (j : S8192x4096.Idx) : EReal :=
  Cert.Tail.scaled (fun k => resG x z g (ix2 (j 0) k)) (j 1) * g' (ix2 0 (j 1))

def upG (u : S8192x4096.Idx → EReal) (w : S4096x16384.Idx → EReal) (j : S8192x16384.Idx) : EReal :=
  max (∑ k : Fin 4096, u (ix2 (j 0) k) * w (ix2 k (j 1))) 0 * max (∑ k : Fin 4096, u (ix2 (j 0) k) * w (ix2 k (j 1))) 0

variable (V : (c : Dev nD) → (b : Ref sig .tc) → Buf (Elt Ideal) ((c : Thread nD τ).loc b))

/-! ## The merge -/

theorem pay0_apply (x0 : Vec Ideal S1024x2048 .bf16) (x1 : Vec Ideal S2048x512 .f32) (x2 : Vec Ideal S1024x2048 .bf16)
    (x3 : Vec Ideal S2048x512 .f32) (x4 x5 : Vec Ideal S1024x512 .bf16) (y : S1024x512.Idx) :
    k0_pay1 x0 x1 x2 x3 x4 x5 y = Ideal.logistic (x4 y) * (∑ k : Fin 2048, x0 (ix2 (y 0) k) * x1 (ix2 k (y 1)))
      + Ideal.logistic (x5 y) * (∑ k : Fin 2048, x2 (ix2 (y 0) k) * x3 (ix2 k (y 1))) := by
  pointwise [k0_pay1]

theorem idx0 : ∀ t : Fin cfg0.N, win0_0.index t = ![t.val / 8, 0] ∧ win0_1.index t = ![t.val / 8, 0] ∧ win0_2.index t = ![0, t.val % 8]
    ∧ win0_3.index t = ![0, t.val % 8] ∧ win0_4.index t = ![t.val / 8, t.val % 8] ∧ win0_5.index t = ![t.val / 8, 8 + t.val % 8]
    ∧ win0_6.index t = ![t.val / 8, t.val % 8] :=
  (by decide +kernel : ∀ t : Fin grid0.N, _)

theorem arr0 (c : Dev nD) : (dat0 V c).arrAt 6 cfg0.N = mergeG (V c main_v1) (V c main_v2) (V c main_v3) (V c main_v4) (V c main_arg3) := by
  refine (dat0 V c).arrAt_eq_of_covers 6 _ (by decide +kernel) fun t hf y => ?_
  blk_simp
  rw [after0_6]
  frame_out
  rw [pay0_apply]
  unfold mergeG
  change @Eq EReal _ _
  have h4 : iblk0 V c 4 t y = V c main_arg3 (ix2 ((((cfg0.win 6).rect t).emb y) 0) ⟨((((cfg0.win 6).rect t).emb y) 1).val,
      by have : ((((cfg0.win 6).rect t).emb y) 1).val < 4096 := ((((cfg0.win 6).rect t).emb y) 1).isLt; omega⟩) := by
    blk_ext [iblk0, idx0 t]
  have h5 : iblk0 V c 5 t y = V c main_arg3 (ix2 ((((cfg0.win 6).rect t).emb y) 0) ⟨4096 + ((((cfg0.win 6).rect t).emb y) 1).val,
      by have : ((((cfg0.win 6).rect t).emb y) 1).val < 4096 := ((((cfg0.win 6).rect t).emb y) 1).isLt; omega⟩) := by
    blk_ext [iblk0, idx0 t]
    show (8 + t.val % 8) * 512 + (y 1).val = 4096 + (t.val % 8 * 512 + (y 1).val); omega
  have h0 (k : Fin 2048) : iblk0 V c 0 t (ix2 (y 0) k) = V c main_v1 (ix2 ((((cfg0.win 6).rect t).emb y) 0) k) := by
    blk_ext [iblk0, idx0 t]
  have h1 (k : Fin 2048) : iblk0 V c 1 t (ix2 (y 0) k) = V c main_v2 (ix2 ((((cfg0.win 6).rect t).emb y) 0) k) := by
    blk_ext [iblk0, idx0 t]
  have h2 (k : Fin 2048) : iblk0 V c 2 t (ix2 k (y 1)) = V c main_v3 (ix2 k ((((cfg0.win 6).rect t).emb y) 1)) := by
    blk_ext [iblk0, idx0 t]
  have h3 (k : Fin 2048) : iblk0 V c 3 t (ix2 k (y 1)) = V c main_v4 (ix2 k ((((cfg0.win 6).rect t).emb y) 1)) := by
    blk_ext [iblk0, idx0 t]
  rw [h4, h5]
  simp only [h0, h1, h2, h3]
  rfl

/-! ## The output projection -/

theorem pay1_apply (x0 : Vec Ideal S2048x4096 .bf16) (x1 : Vec Ideal S4096x512 .f32) (y : S2048x512.Idx) :
    k1_pay1 x0 x1 y = ∑ k : Fin 4096, x0 (ix2 (y 0) k) * x1 (ix2 k (y 1)) := by
  pointwise [k1_pay1]

theorem idx1 : ∀ t : Fin cfg1.N, win1_0.index t = ![t.val / 8, 0] ∧ win1_1.index t = ![0, t.val % 8]
    ∧ win1_2.index t = ![t.val / 8, t.val % 8] :=
  (by decide +kernel : ∀ t : Fin grid1.N, _)

theorem arr1 (c : Dev nD) : (dat1 V c).arrAt 2 cfg1.N = mixG (V c main_v5) (V c main_v6) := by
  refine (dat1 V c).arrAt_eq_of_covers 2 _ (by decide +kernel) fun t hf y => ?_
  blk_simp
  rw [after1_2]
  frame_out
  rw [pay1_apply]
  unfold mixG
  change @Eq EReal _ _
  refine Finset.sum_congr rfl fun k _ => ?_
  congr 1 <;> blk_ext [iblk1, idx1 t]

/-! ## The two norms -/

theorem pay21_apply (x0 : Vec Ideal S256x4096 .bf16) (x1 : Vec Ideal S256x4096 .f32) (x2 : Vec Ideal S1x4096 .f32) (y : S256x4096.Idx) :
    k2_pay1 x0 x1 x2 y = x1 (ix2 (y 0) (y 1)) + Cert.Tail.scaled (fun k => x0 (ix2 (y 0) k)) (y 1) * x2 (ix2 0 (y 1)) := by
  obtain ⟨a, b, rfl⟩ : ∃ a b, y = ix2 a b := ⟨y 0, y 1, (ix2_eta y).symm⟩
  pointwise [k2_pay1]
  rfl

theorem pay22_apply (x0 : Vec Ideal S256x4096 .bf16) (x1 : Vec Ideal S256x4096 .f32) (x2 x3 : Vec Ideal S1x4096 .f32) (y : S256x4096.Idx) :
    k2_pay2 x0 x1 x2 x3 y = Cert.Tail.scaled (fun k => k2_pay1 x0 x1 x2 (ix2 (y 0) k)) (y 1) * x3 (ix2 0 (y 1)) := by
  obtain ⟨a, b, rfl⟩ : ∃ a b, y = ix2 a b := ⟨y 0, y 1, (ix2_eta y).symm⟩
  pointwise [k2_pay2]
  rfl

theorem idx2 : ∀ t : Fin cfg2.N, win2_0.index t = ![t.val, 0] ∧ win2_1.index t = ![t.val, 0] ∧ win2_2.index t = ![0, 0]
    ∧ win2_3.index t = ![0, 0] ∧ win2_4.index t = ![t.val, 0] ∧ win2_5.index t = ![t.val, 0] :=
  (by decide +kernel : ∀ t : Fin grid2.N, _)

/-- A block of rows of the residual is the residual of the block's rows. -/
theorem blk_res (c : Dev nD) (t : Fin cfg2.N) (y : S256x4096.Idx) :
    k2_pay1 (iblk2 V c 1 t) (iblk2 V c 0 t) (iblk2 V c 2 t) y
      = resG (V c main_v0) (V c main_v7) (V c main_v10) (((cfg2.win 4).rect t).emb y) := by
  have h1 : (((cfg2.win 4).rect t).emb y) 1 = y 1 := Fin.ext (by
    refine (win2_4.rect_emb_val_off t y 1).trans ?_
    rw [(idx2 t).2.2.2.2.1]
    show 0 * 4096 + (y 1).val = (y 1).val; omega)
  have hx : iblk2 V c 0 t (ix2 (y 0) (y 1)) = V c main_v0 (ix2 ((((cfg2.win 4).rect t).emb y) 0) (y 1)) := by
    blk_ext [iblk2, idx2 t]
  have hz (k : Fin 4096) : iblk2 V c 1 t (ix2 (y 0) k) = V c main_v7 (ix2 ((((cfg2.win 4).rect t).emb y) 0) k) := by
    blk_ext [iblk2, idx2 t]
  have hg : iblk2 V c 2 t (ix2 0 (y 1)) = V c main_v10 (ix2 0 (y 1)) := by
    blk_ext [iblk2, idx2 t]
  rw [pay21_apply]
  unfold resG
  rw [h1, hx, hg]
  simp only [hz]

theorem arr2_4 (c : Dev nD) : (dat2 V c).arrAt 4 cfg2.N = resG (V c main_v0) (V c main_v7) (V c main_v10) := by
  refine (dat2 V c).arrAt_eq_of_covers 4 _ (by decide +kernel) fun t hf y => ?_
  blk_simp
  rw [after2_4]
  frame_out
  exact blk_res V c t y

theorem blk_norm (c : Dev nD) (t : Fin cfg2.N) (y : S256x4096.Idx) :
    k2_pay2 (iblk2 V c 1 t) (iblk2 V c 0 t) (iblk2 V c 2 t) (iblk2 V c 3 t) y
      = normG (V c main_v0) (V c main_v7) (V c main_v10) (V c main_v11) (((cfg2.win 5).rect t).emb y) := by
  have h1 : (((cfg2.win 5).rect t).emb y) 1 = y 1 := Fin.ext (by
    refine (win2_5.rect_emb_val_off t y 1).trans ?_
    rw [(idx2 t).2.2.2.2.2]
    show 0 * 4096 + (y 1).val = (y 1).val; omega)
  have hk (k : Fin 4096) : ((cfg2.win 4).rect t).emb (ix2 (y 0) k) = ix2 ((((cfg2.win 5).rect t).emb y) 0) k := by
    blk_ext [idx2 t]
    show 0 * 4096 + k.val = k.val; omega
  have hg : iblk2 V c 3 t (ix2 0 (y 1)) = V c main_v11 (ix2 0 (y 1)) := by
    blk_ext [iblk2, idx2 t]
  rw [pay22_apply]
  unfold normG
  rw [h1, hg]
  simp only [blk_res, hk]
  rfl

theorem arr2_5 (c : Dev nD) : (dat2 V c).arrAt 5 cfg2.N = normG (V c main_v0) (V c main_v7) (V c main_v10) (V c main_v11) := by
  refine (dat2 V c).arrAt_eq_of_covers 5 _ (by decide +kernel) fun t hf y => ?_
  blk_simp
  rw [after2_5]
  frame_out
  exact blk_norm V c t y

/-! ## The MLP's first product -/

theorem pay3_apply (x0 : Vec Ideal S2048x4096 .bf16) (x1 : Vec Ideal S4096x512 .f32) (y : S2048x512.Idx) :
    k3_pay1 x0 x1 y = max (∑ k : Fin 4096, x0 (ix2 (y 0) k) * x1 (ix2 k (y 1))) 0 * max (∑ k : Fin 4096, x0 (ix2 (y 0) k) * x1 (ix2 k (y 1))) 0 := by
  pointwise [k3_pay1]

theorem idx3 : ∀ t : Fin cfg3.N, win3_0.index t = ![t.val / 32, 0] ∧ win3_1.index t = ![0, t.val % 32]
    ∧ win3_2.index t = ![t.val / 32, t.val % 32] :=
  (by decide +kernel : ∀ t : Fin grid3.N, _)

theorem arr3 (c : Dev nD) : (dat3 V c).arrAt 2 cfg3.N = upG (V c main_v12_1) (V c main_v13) := by
  refine (dat3 V c).arrAt_eq_of_covers 2 _ (by decide +kernel) fun t hf y => ?_
  blk_simp
  rw [after3_2]
  frame_out
  rw [pay3_apply]
  unfold upG
  change @Eq EReal _ _
  have h0 (k : Fin 4096) : iblk3 V c 0 t (ix2 (y 0) k) = V c main_v12_1 (ix2 ((((cfg3.win 2).rect t).emb y) 0) k) := by
    blk_ext [iblk3, idx3 t]
  have h1 (k : Fin 4096) : iblk3 V c 1 t (ix2 k (y 1)) = V c main_v13 (ix2 k ((((cfg3.win 2).rect t).emb y) 1)) := by
    blk_ext [iblk3, idx3 t]
  simp only [h0, h1]
  rfl

end Cert.TailIdeal.Tail
end
-- ==== Proof.TailRun.lean ====
/- The program of the merge, the output projection, the norms and the MLP's first product, run: what the host operations before
   the calls prepare, and the contents the four calls leave. -/
module

public import proofs.«01_k».proof.Proof.Tail
public import proofs.«01_k».proof.Proof.TailMath

@[expose] public section

set_option maxRecDepth 16384

noncomputable section

namespace Cert.TailIdeal.Tail

open Cert.TailIdeal Cert.TailIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The merge's blocks over the flattened arguments are the merged branches, a row's gates being its token's. -/
theorem merge_eq (a : Cert.Tail.Args) :
    mergeG (fun j => a.conv (ix3 (Cert.Tail.bOf (j 0)) (Cert.Tail.sOf (j 0)) (j 1))) (fun j => a.attn (ix3 (Cert.Tail.bOf (j 0)) (Cert.Tail.sOf (j 0)) (j 1)))
      (fun j => a.wConv (ix3 0 (j 0) (j 1))) (fun j => a.wAttn (ix3 0 (j 0) (j 1))) a.gates
      = fun j => Cert.Tail.merged a (Cert.Tail.bOf (j 0)) (Cert.Tail.sOf (j 0)) (j 1) := by
  have row (r : Fin 8192) (n : Fin 4096) : Cert.Tail.merged a (Cert.Tail.bOf r) (Cert.Tail.sOf r) n
      = Ideal.logistic (a.gates (ix2 r ⟨n.val, by omega⟩)) * (∑ k : Fin 2048, a.conv (ix3 (Cert.Tail.bOf r) (Cert.Tail.sOf r) k) * a.wConv (ix3 0 k n))
        + Ideal.logistic (a.gates (ix2 r ⟨4096 + n.val, by omega⟩)) * (∑ k : Fin 2048, a.attn (ix3 (Cert.Tail.bOf r) (Cert.Tail.sOf r) k) * a.wAttn (ix3 0 k n)) := by
    unfold Cert.Tail.merged
    rw [Cert.Tail.rowOf_eq]
  funext j
  exact (row (j 0) (j 1)).symm

/-- The arguments, at their shapes over the extended reals. -/
abbrev args (c : Dev nD) : Cert.Tail.Args where
  x := m ((c : Thread nD τ).loc main_arg0)
  conv := m ((c : Thread nD τ).loc main_arg1)
  attn := m ((c : Thread nD τ).loc main_arg2)
  gates := m ((c : Thread nD τ).loc main_arg3)
  wConv := m ((c : Thread nD τ).loc main_arg4)
  wAttn := m ((c : Thread nD τ).loc main_arg5)
  wOut := m ((c : Thread nD τ).loc main_arg6)
  g1 := m ((c : Thread nD τ).loc main_arg7)
  g2 := m ((c : Thread nD τ).loc main_arg8)
  wUp := m ((c : Thread nD τ).loc main_arg9)

/-! ## What the host prepares: the arguments at the calls' shapes -/

theorem host_x (c : Dev nD) : (W1 m ρ c (Proc.devRef .tc main_v0) : S8192x4096.Idx → EReal) = fun j => (args m c).x (ix3 (Cert.Tail.bOf (j 0)) (Cert.Tail.sOf (j 0)) (j 1)) := by
  show StableHlo.after hostOps0 _ _ = _
  after_results
  funext j
  pointwise

theorem host_conv (c : Dev nD) : (W1 m ρ c (Proc.devRef .tc main_v1) : S8192x2048.Idx → EReal) = fun j => (args m c).conv (ix3 (Cert.Tail.bOf (j 0)) (Cert.Tail.sOf (j 0)) (j 1)) := by
  show StableHlo.after hostOps0 _ _ = _
  after_results
  funext j
  pointwise

theorem host_attn (c : Dev nD) : (W1 m ρ c (Proc.devRef .tc main_v2) : S8192x2048.Idx → EReal) = fun j => (args m c).attn (ix3 (Cert.Tail.bOf (j 0)) (Cert.Tail.sOf (j 0)) (j 1)) := by
  show StableHlo.after hostOps0 _ _ = _
  after_results
  funext j
  pointwise

theorem host_wConv (c : Dev nD) : (W1 m ρ c (Proc.devRef .tc main_v3) : S2048x4096.Idx → EReal) = fun j => (args m c).wConv (ix3 0 (j 0) (j 1)) := by
  show StableHlo.after hostOps0 _ _ = _
  after_results
  funext j
  pointwise

theorem host_wAttn (c : Dev nD) : (W1 m ρ c (Proc.devRef .tc main_v4) : S2048x4096.Idx → EReal) = fun j => (args m c).wAttn (ix3 0 (j 0) (j 1)) := by
  show StableHlo.after hostOps0 _ _ = _
  after_results
  funext j
  pointwise

theorem host_gates (c : Dev nD) : (W1 m ρ c (Proc.devRef .tc main_arg3) : S8192x8192.Idx → EReal) = (args m c).gates :=
  W1_args m ρ c main_arg3 (by decide)

theorem host_wOut (c : Dev nD) : (W3 m ρ c (Proc.devRef .tc main_v6) : S4096x4096.Idx → EReal) = fun j => (args m c).wOut (ix3 0 (j 0) (j 1)) := by
  show StableHlo.after hostOps1 _ _ = _
  after_results
  rw [show W2 m ρ c (Proc.devRef .tc main_arg6) = m ((c : Thread nD τ).loc main_arg6) from W2_args m ρ c main_arg6 (by decide)]
  funext j
  pointwise

theorem host_g1 (c : Dev nD) : (W5 m ρ c (Proc.devRef .tc main_v10) : S1x4096.Idx → EReal) = fun j => (args m c).g1 (ix2 0 (j 1)) := by
  show StableHlo.after hostOps2 _ _ = _
  after_results
  rw [show W4 m ρ c (Proc.devRef .tc main_arg7) = m ((c : Thread nD τ).loc main_arg7) from W4_args m ρ c main_arg7 (by decide)]
  funext j
  pointwise

theorem host_g2 (c : Dev nD) : (W5 m ρ c (Proc.devRef .tc main_v11) : S1x4096.Idx → EReal) = fun j => (args m c).g2 (ix2 0 (j 1)) := by
  show StableHlo.after hostOps2 _ _ = _
  after_results
  rw [show W4 m ρ c (Proc.devRef .tc main_arg8) = m ((c : Thread nD τ).loc main_arg8) from W4_args m ρ c main_arg8 (by decide)]
  funext j
  pointwise

theorem host_wUp (c : Dev nD) : (W7 m ρ c (Proc.devRef .tc main_v13) : S4096x16384.Idx → EReal) = fun j => (args m c).wUp (ix3 0 (j 0) (j 1)) := by
  show StableHlo.after hostOps3 _ _ = _
  after_results
  rw [show W6 m ρ c (Proc.devRef .tc main_arg9) = m ((c : Thread nD τ).loc main_arg9) from W6_args m ρ c main_arg9 (by decide)]
  funext j
  pointwise

/-! ## The contents at the calls' ends -/

theorem W3_merged (c : Dev nD) : (W3 m ρ c (Proc.devRef .tc main_v5) : S8192x4096.Idx → EReal)
    = fun j => Cert.Tail.merged (args m c) (Cert.Tail.bOf (j 0)) (Cert.Tail.sOf (j 0)) (j 1) := by
  refine (W3_of m ρ c main_v5 (by decide)).trans ((W2_arr m ρ c 6).trans ((arr0 (V1 m ρ) c).trans ?_))
  show mergeG (W1 m ρ c (Proc.devRef .tc main_v1)) (W1 m ρ c (Proc.devRef .tc main_v2)) (W1 m ρ c (Proc.devRef .tc main_v3))
    (W1 m ρ c (Proc.devRef .tc main_v4)) (W1 m ρ c (Proc.devRef .tc main_arg3)) = _
  rw [host_conv, host_attn, host_wConv, host_wAttn, host_gates]
  exact merge_eq (args m c)

theorem W5_mixed (c : Dev nD) : (W5 m ρ c (Proc.devRef .tc main_v7) : S8192x4096.Idx → EReal)
    = fun j => Cert.Tail.mixed (args m c) (Cert.Tail.bOf (j 0)) (Cert.Tail.sOf (j 0)) (j 1) := by
  refine (W5_of m ρ c main_v7 (by decide)).trans ((W4_arr m ρ c 2).trans ((arr1 (V3 m ρ) c).trans ?_))
  show mixG (W3 m ρ c (Proc.devRef .tc main_v5)) (W3 m ρ c (Proc.devRef .tc main_v6)) = _
  rw [W3_merged, host_wOut]
  rfl

theorem W5_x (c : Dev nD) : (W5 m ρ c (Proc.devRef .tc main_v0) : S8192x4096.Idx → EReal)
    = fun j => (args m c).x (ix3 (Cert.Tail.bOf (j 0)) (Cert.Tail.sOf (j 0)) (j 1)) :=
  (W5_of m ρ c main_v0 (by decide)).trans ((W4_of m ρ c main_v0 (by decide)).trans ((W3_of m ρ c main_v0 (by decide)).trans
    ((W2_of m ρ c main_v0 (by decide)).trans (host_x m ρ c))))

theorem res_eq (c : Dev nD) : (resG (W5 m ρ c (Proc.devRef .tc main_v0)) (W5 m ρ c (Proc.devRef .tc main_v7)) (W5 m ρ c (Proc.devRef .tc main_v10))
    : S8192x4096.Idx → EReal) = fun j => Cert.Tail.x1 (args m c) (Cert.Tail.bOf (j 0)) (Cert.Tail.sOf (j 0)) (j 1) := by
  rw [W5_x, W5_mixed, host_g1]
  rfl

theorem W7_h (c : Dev nD) : (W7 m ρ c (Proc.devRef .tc main_v12_1) : S8192x4096.Idx → EReal)
    = fun j => Cert.Tail.h (args m c) (Cert.Tail.bOf (j 0)) (Cert.Tail.sOf (j 0)) (j 1) := by
  refine (W7_of m ρ c main_v12_1 (by decide)).trans ((W6_arr m ρ c 5).trans ((arr2_5 (V5 m ρ) c).trans ?_))
  show normG (W5 m ρ c (Proc.devRef .tc main_v0)) (W5 m ρ c (Proc.devRef .tc main_v7)) (W5 m ρ c (Proc.devRef .tc main_v10))
    (W5 m ρ c (Proc.devRef .tc main_v11)) = _
  unfold normG
  rw [res_eq, host_g2]
  rfl

theorem W8_x1 (c : Dev nD) : (W8 m ρ c (Proc.devRef .tc main_v12_0) : S8192x4096.Idx → EReal)
    = fun j => Cert.Tail.x1 (args m c) (Cert.Tail.bOf (j 0)) (Cert.Tail.sOf (j 0)) (j 1) :=
  (W8_of m ρ c main_v12_0 (by decide)).trans ((W7_of m ρ c main_v12_0 (by decide)).trans
    ((W6_arr m ρ c 4).trans ((arr2_4 (V5 m ρ) c).trans (res_eq m ρ c))))

theorem W8_hidden (c : Dev nD) : (W8 m ρ c (Proc.devRef .tc main_v14) : S8192x16384.Idx → EReal)
    = fun j => Cert.Tail.hidden (args m c) (Cert.Tail.bOf (j 0)) (Cert.Tail.sOf (j 0)) (j 1) := by
  refine (W8_arr m ρ c 2).trans ((arr3 (V7 m ρ) c).trans ?_)
  show upG (W7 m ρ c (Proc.devRef .tc main_v12_1)) (W7 m ρ c (Proc.devRef .tc main_v13)) = _
  rw [W7_h, host_wUp]
  rfl

/-! ## The run -/

set_option backward.isDefEq.respectTransparency.types false in
/-- The program ends with every buffer at the contents its calls leave. -/
theorem ends : θ_run defs (onTc (τ := τ) (main (F := Ideal))) ⟨m, fun _ => 0, ρ⟩
    (fun r => ∀ c : Dev nD, ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h _ => h)

/-- The program ends with the residual stream and the hidden values, its arguments unchanged. -/
theorem run : θ_run defs (onTc (τ := τ) (main (F := Ideal))) ⟨m, fun _ => 0, ρ⟩ fun r => ∀ c : Dev nD,
    r.2.mem ((c.tc : Thread nD τ).loc main_v12_0)
      = (fun j => Cert.Tail.x1 (args m c) (Cert.Tail.bOf (j 0)) (Cert.Tail.sOf (j 0)) (j 1))
    ∧ r.2.mem ((c.tc : Thread nD τ).loc main_v14)
      = (fun j => Cert.Tail.hidden (args m c) (Cert.Tail.bOf (j 0)) (Cert.Tail.sOf (j 0)) (j 1))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  (θ_run defs _ _).mono (fun _ h c =>
    ⟨(h c _ (mem_uc main_v12_0 (by decide))).trans (W8_x1 m ρ c),
     (h c _ (mem_uc main_v14 (by decide))).trans (W8_hidden m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c)⟩) (ends m ρ)

end Cert.TailIdeal.Tail

end
-- ==== Proof.TailRef.lean ====
/- The reference of the merge, the output projection, the norms and the MLP's first product, run and read element by element:
   its operations in five stretches, each read from what the one before leaves. -/
module

public import proofs.«01_k».proof.Proof.Gen.TailRefIdeal
public import proofs.«01_k».proof.Proof.TailMath
public import Idealize.ShloMosaic.Lib.Claim
public import Idealize.ShloMosaic.Lib.Pipeline.ValueKit

@[expose] public section

set_option maxRecDepth 16384

noncomputable section

namespace Cert.TailRefIdeal.Tail

open Cert.TailRefIdeal Facts₀ Facts
open Idealize.ShloMosaic Idealize.ShloMosaic.TcCoe Idealize.SL.Sem

section
variable {F : FTy → Type} [FloatOps F]

/-- The two branches under their gates. -/
def opsMerge : List (HloOp τ sig (Elt F)) :=
  [ StableHlo.unary main_arg3 main_v0 ((extf .f32 · bitsLt_bf16_f32) : (⟨S8192x8192, .bf16⟩ : BufTy).Contents (Elt F) → (⟨S8192x8192, .f32⟩ : BufTy).Contents (Elt F)),
    StableHlo.reshape main_v0 main_v1 (rfl : (.f32 : EltTy) = .f32) shapeCasts_S8192x8192_S4x2048x8192,
    StableHlo.unary main_v1 main_v2 ((extractStridedSlice S4x2048x4096 ![0, 0, 0] · slices_S4x2048x8192_S4x2048x4096_0_0_0) : (⟨S4x2048x8192, .f32⟩ : BufTy).Contents (Elt F) → (⟨S4x2048x4096, .f32⟩ : BufTy).Contents (Elt F)),
    StableHlo.unary main_v1 main_v3 ((extractStridedSlice S4x2048x4096 ![0, 0, 4096] · slices_S4x2048x8192_S4x2048x4096_0_0_4096) : (⟨S4x2048x8192, .f32⟩ : BufTy).Contents (Elt F) → (⟨S4x2048x4096, .f32⟩ : BufTy).Contents (Elt F)),
    StableHlo.unary main_arg1 main_v4 ((extf .f32 · bitsLt_bf16_f32) : (⟨S4x2048x2048, .bf16⟩ : BufTy).Contents (Elt F) → (⟨S4x2048x2048, .f32⟩ : BufTy).Contents (Elt F)),
    StableHlo.reshape main_arg4 main_v5 (rfl : (.f32 : EltTy) = .f32) shapeCasts_S1x2048x4096_S2048x4096,
    StableHlo.binary main_v4 main_v5 main_v6 ((fun l r => Host.dotGeneral dot_S4x2048x2048_S2048x4096_S4x2048x4096_2_0_01_1_n_n none l r) : (⟨S4x2048x2048, .f32⟩ : BufTy).Contents (Elt F) → (⟨S2048x4096, .f32⟩ : BufTy).Contents (Elt F) → (⟨S4x2048x4096, .f32⟩ : BufTy).Contents (Elt F)),
    StableHlo.unary main_arg2 main_v7 ((extf .f32 · bitsLt_bf16_f32) : (⟨S4x2048x2048, .bf16⟩ : BufTy).Contents (Elt F) → (⟨S4x2048x2048, .f32⟩ : BufTy).Contents (Elt F)),
    StableHlo.reshape main_arg5 main_v8 (rfl : (.f32 : EltTy) = .f32) shapeCasts_S1x2048x4096_S2048x4096,
    StableHlo.binary main_v7 main_v8 main_v9 ((fun l r => Host.dotGeneral dot_S4x2048x2048_S2048x4096_S4x2048x4096_2_0_01_1_n_n none l r) : (⟨S4x2048x2048, .f32⟩ : BufTy).Contents (Elt F) → (⟨S2048x4096, .f32⟩ : BufTy).Contents (Elt F) → (⟨S4x2048x4096, .f32⟩ : BufTy).Contents (Elt F)),
    StableHlo.unary main_v2 main_v10 (Host.negf : (⟨S4x2048x4096, .f32⟩ : BufTy).Contents (Elt F) → (⟨S4x2048x4096, .f32⟩ : BufTy).Contents (Elt F)),
    StableHlo.unary main_v10 main_v11 (Host.exp : (⟨S4x2048x4096, .f32⟩ : BufTy).Contents (Elt F) → (⟨S4x2048x4096, .f32⟩ : BufTy).Contents (Elt F)),
    StableHlo.nullary main_cst (constant S_ .f32 0x3F800000#32),
    StableHlo.unary main_cst main_v12 (broadcastInDim S4x2048x4096 ![] bcast_S_S4x2048x4096 : (⟨S_, .f32⟩ : BufTy).Contents (Elt F) → (⟨S4x2048x4096, .f32⟩ : BufTy).Contents (Elt F)),
    StableHlo.binary main_v12 main_v11 main_v13 (addf : (⟨S4x2048x4096, .f32⟩ : BufTy).Contents (Elt F) → (⟨S4x2048x4096, .f32⟩ : BufTy).Contents (Elt F) → (⟨S4x2048x4096, .f32⟩ : BufTy).Contents (Elt F)),
    StableHlo.nullary main_cst_0 (constant S_ .f32 0x3F800000#32),
    StableHlo.unary main_cst_0 main_v14 (broadcastInDim S4x2048x4096 ![] bcast_S_S4x2048x4096 : (⟨S_, .f32⟩ : BufTy).Contents (Elt F) → (⟨S4x2048x4096, .f32⟩ : BufTy).Contents (Elt F)),
    StableHlo.binary main_v14 main_v13 main_v15 (Host.divf : (⟨S4x2048x4096, .f32⟩ : BufTy).Contents (Elt F) → (⟨S4x2048x4096, .f32⟩ : BufTy).Contents (Elt F) → (⟨S4x2048x4096, .f32⟩ : BufTy).Contents (Elt F)),
    StableHlo.binary main_v15 main_v6 main_v16 (mulf : (⟨S4x2048x4096, .f32⟩ : BufTy).Contents (Elt F) → (⟨S4x2048x4096, .f32⟩ : BufTy).Contents (Elt F) → (⟨S4x2048x4096, .f32⟩ : BufTy).Contents (Elt F)),
    StableHlo.unary main_v3 main_v17 (Host.negf : (⟨S4x2048x4096, .f32⟩ : BufTy).Contents (Elt F) → (⟨S4x2048x4096, .f32⟩ : BufTy).Contents (Elt F)),
    StableHlo.unary main_v17 main_v18 (Host.exp : (⟨S4x2048x4096, .f32⟩ : BufTy).Contents (Elt F) → (⟨S4x2048x4096, .f32⟩ : BufTy).Contents (Elt F)),
    StableHlo.nullary main_cst_1 (constant S_ .f32 0x3F800000#32),
    StableHlo.unary main_cst_1 main_v19 (broadcastInDim S4x2048x4096 ![] bcast_S_S4x2048x4096 : (⟨S_, .f32⟩ : BufTy).Contents (Elt F) → (⟨S4x2048x4096, .f32⟩ : BufTy).Contents (Elt F)),
    StableHlo.binary main_v19 main_v18 main_v20 (addf : (⟨S4x2048x4096, .f32⟩ : BufTy).Contents (Elt F) → (⟨S4x2048x4096, .f32⟩ : BufTy).Contents (Elt F) → (⟨S4x2048x4096, .f32⟩ : BufTy).Contents (Elt F)),
    StableHlo.nullary main_cst_2 (constant S_ .f32 0x3F800000#32),
    StableHlo.unary main_cst_2 main_v21 (broadcastInDim S4x2048x4096 ![] bcast_S_S4x2048x4096 : (⟨S_, .f32⟩ : BufTy).Contents (Elt F) → (⟨S4x2048x4096, .f32⟩ : BufTy).Contents (Elt F)),
    StableHlo.binary main_v21 main_v20 main_v22 (Host.divf : (⟨S4x2048x4096, .f32⟩ : BufTy).Contents (Elt F) → (⟨S4x2048x4096, .f32⟩ : BufTy).Contents (Elt F) → (⟨S4x2048x4096, .f32⟩ : BufTy).Contents (Elt F)),
    StableHlo.binary main_v22 main_v9 main_v23 (mulf : (⟨S4x2048x4096, .f32⟩ : BufTy).Contents (Elt F) → (⟨S4x2048x4096, .f32⟩ : BufTy).Contents (Elt F) → (⟨S4x2048x4096, .f32⟩ : BufTy).Contents (Elt F)),
    StableHlo.binary main_v16 main_v23 main_v24 (addf : (⟨S4x2048x4096, .f32⟩ : BufTy).Contents (Elt F) → (⟨S4x2048x4096, .f32⟩ : BufTy).Contents (Elt F) → (⟨S4x2048x4096, .f32⟩ : BufTy).Contents (Elt F)) ]

/-- The output projection. -/
def opsMix : List (HloOp τ sig (Elt F)) :=
  [ StableHlo.reshape main_arg6 main_v25 (rfl : (.f32 : EltTy) = .f32) shapeCasts_S1x4096x4096_S4096x4096,
    StableHlo.binary main_v24 main_v25 main_v26 ((fun l r => Host.dotGeneral dot_S4x2048x4096_S4096x4096_S4x2048x4096_2_0_01_1_n_n none l r) : (⟨S4x2048x4096, .f32⟩ : BufTy).Contents (Elt F) → (⟨S4096x4096, .f32⟩ : BufTy).Contents (Elt F) → (⟨S4x2048x4096, .f32⟩ : BufTy).Contents (Elt F)) ]

/-- The norm added to the tokens. -/
def opsRes : List (HloOp τ sig (Elt F)) :=
  [ StableHlo.reshape main_arg7 main_v27 (rfl : (.f32 : EltTy) = .f32) shapeCasts_S1x4096_S4096,
    StableHlo.binary main_v26 main_v26 main_v28 (mulf : (⟨S4x2048x4096, .f32⟩ : BufTy).Contents (Elt F) → (⟨S4x2048x4096, .f32⟩ : BufTy).Contents (Elt F) → (⟨S4x2048x4096, .f32⟩ : BufTy).Contents (Elt F)),
    StableHlo.nullary main_cst_3 (constant S_ .f32 0x00000000#32),
    StableHlo.binary main_v28 main_cst_3 main_v29 ((fun x v => Host.reduceAdd x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)),
    StableHlo.unary main_v29 main_v30 (broadcastInDim S4x2048x1 ![0, 1] bcast_S4x2048_S4x2048x1_0_1 : (⟨S4x2048, .f32⟩ : BufTy).Contents (Elt F) → (⟨S4x2048x1, .f32⟩ : BufTy).Contents (Elt F)),
    StableHlo.nullary main_cst_4 (constant S_ .f32 0x45800000#32),
    StableHlo.unary main_cst_4 main_v31 (broadcastInDim S4x2048x1 ![] bcast_S_S4x2048x1 : (⟨S_, .f32⟩ : BufTy).Contents (Elt F) → (⟨S4x2048x1, .f32⟩ : BufTy).Contents (Elt F)),
    StableHlo.binary main_v30 main_v31 main_v32 (Host.divf : (⟨S4x2048x1, .f32⟩ : BufTy).Contents (Elt F) → (⟨S4x2048x1, .f32⟩ : BufTy).Contents (Elt F) → (⟨S4x2048x1, .f32⟩ : BufTy).Contents (Elt F)),
    StableHlo.nullary main_cst_5 (constant S_ .f32 0x358637BD#32),
    StableHlo.unary main_cst_5 main_v33 (broadcastInDim S4x2048x1 ![] bcast_S_S4x2048x1 : (⟨S_, .f32⟩ : BufTy).Contents (Elt F) → (⟨S4x2048x1, .f32⟩ : BufTy).Contents (Elt F)),
    StableHlo.binary main_v32 main_v33 main_v34 (addf : (⟨S4x2048x1, .f32⟩ : BufTy).Contents (Elt F) → (⟨S4x2048x1, .f32⟩ : BufTy).Contents (Elt F) → (⟨S4x2048x1, .f32⟩ : BufTy).Contents (Elt F)),
    StableHlo.unary main_v34 main_v35 (Host.rsqrt : (⟨S4x2048x1, .f32⟩ : BufTy).Contents (Elt F) → (⟨S4x2048x1, .f32⟩ : BufTy).Contents (Elt F)),
    StableHlo.unary main_v35 main_v36 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    StableHlo.binary main_v26 main_v36 main_v37 (mulf : (⟨S4x2048x4096, .f32⟩ : BufTy).Contents (Elt F) → (⟨S4x2048x4096, .f32⟩ : BufTy).Contents (Elt F) → (⟨S4x2048x4096, .f32⟩ : BufTy).Contents (Elt F)),
    StableHlo.unary main_v27 main_v38 (broadcastInDim S1x1x4096 ![2] bcast_S4096_S1x1x4096_2 : (⟨S4096, .f32⟩ : BufTy).Contents (Elt F) → (⟨S1x1x4096, .f32⟩ : BufTy).Contents (Elt F)),
    StableHlo.unary main_v38 main_v39 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_v37 main_v39 main_v40 (mulf : (⟨S4x2048x4096, .f32⟩ : BufTy).Contents (Elt F) → (⟨S4x2048x4096, .f32⟩ : BufTy).Contents (Elt F) → (⟨S4x2048x4096, .f32⟩ : BufTy).Contents (Elt F)),
    StableHlo.binary main_arg0 main_v40 main_v41 (addf : (⟨S4x2048x4096, .f32⟩ : BufTy).Contents (Elt F) → (⟨S4x2048x4096, .f32⟩ : BufTy).Contents (Elt F) → (⟨S4x2048x4096, .f32⟩ : BufTy).Contents (Elt F)) ]

/-- The second norm. -/
def opsNorm : List (HloOp τ sig (Elt F)) :=
  [ StableHlo.reshape main_arg8 main_v42 (rfl : (.f32 : EltTy) = .f32) shapeCasts_S1x4096_S4096,
    StableHlo.binary main_v41 main_v41 main_v43 (mulf : (⟨S4x2048x4096, .f32⟩ : BufTy).Contents (Elt F) → (⟨S4x2048x4096, .f32⟩ : BufTy).Contents (Elt F) → (⟨S4x2048x4096, .f32⟩ : BufTy).Contents (Elt F)),
    StableHlo.nullary main_cst_6 (constant S_ .f32 0x00000000#32),
    StableHlo.binary main_v43 main_cst_6 main_v44 ((fun x v => Host.reduceAdd x v reducesTo_S4x2048x4096_S4x2048_d2 h_S_) : (⟨S4x2048x4096, .f32⟩ : BufTy).Contents (Elt F) → (⟨S_, .f32⟩ : BufTy).Contents (Elt F) → (⟨S4x2048, .f32⟩ : BufTy).Contents (Elt F)),
    StableHlo.unary main_v44 main_v45 (broadcastInDim S4x2048x1 ![0, 1] bcast_S4x2048_S4x2048x1_0_1 : (⟨S4x2048, .f32⟩ : BufTy).Contents (Elt F) → (⟨S4x2048x1, .f32⟩ : BufTy).Contents (Elt F)),
    StableHlo.nullary main_cst_7 (constant S_ .f32 0x45800000#32),
    StableHlo.unary main_cst_7 main_v46 (broadcastInDim S4x2048x1 ![] bcast_S_S4x2048x1 : (⟨S_, .f32⟩ : BufTy).Contents (Elt F) → (⟨S4x2048x1, .f32⟩ : BufTy).Contents (Elt F)),
    StableHlo.binary main_v45 main_v46 main_v47 (Host.divf : (⟨S4x2048x1, .f32⟩ : BufTy).Contents (Elt F) → (⟨S4x2048x1, .f32⟩ : BufTy).Contents (Elt F) → (⟨S4x2048x1, .f32⟩ : BufTy).Contents (Elt F)),
    StableHlo.nullary main_cst_8 (constant S_ .f32 0x358637BD#32),
    StableHlo.unary main_cst_8 main_v48 (broadcastInDim S4x2048x1 ![] bcast_S_S4x2048x1 : (⟨S_, .f32⟩ : BufTy).Contents (Elt F) → (⟨S4x2048x1, .f32⟩ : BufTy).Contents (Elt F)),
    StableHlo.binary main_v47 main_v48 main_v49 (addf : (⟨S4x2048x1, .f32⟩ : BufTy).Contents (Elt F) → (⟨S4x2048x1, .f32⟩ : BufTy).Contents (Elt F) → (⟨S4x2048x1, .f32⟩ : BufTy).Contents (Elt F)),
    StableHlo.unary main_v49 main_v50 (Host.rsqrt : (⟨S4x2048x1, .f32⟩ : BufTy).Contents (Elt F) → (⟨S4x2048x1, .f32⟩ : BufTy).Contents (Elt F)),
    StableHlo.unary main_v50 main_v51 (broadcastInDim S4x2048x4096 ![0, 1, 2] bcast_S4x2048x1_S4x2048x4096_0_1_2 : (⟨S4x2048x1, .f32⟩ : BufTy).Contents (Elt F) → (⟨S4x2048x4096, .f32⟩ : BufTy).Contents (Elt F)),
    StableHlo.binary main_v41 main_v51 main_v52 (mulf : (⟨S4x2048x4096, .f32⟩ : BufTy).Contents (Elt F) → (⟨S4x2048x4096, .f32⟩ : BufTy).Contents (Elt F) → (⟨S4x2048x4096, .f32⟩ : BufTy).Contents (Elt F)),
    StableHlo.unary main_v42 main_v53 (broadcastInDim S1x1x4096 ![2] bcast_S4096_S1x1x4096_2 : (⟨S4096, .f32⟩ : BufTy).Contents (Elt F) → (⟨S1x1x4096, .f32⟩ : BufTy).Contents (Elt F)),
    StableHlo.unary main_v53 main_v54 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    StableHlo.binary main_v52 main_v54 main_v55 (mulf : (⟨S4x2048x4096, .f32⟩ : BufTy).Contents (Elt F) → (⟨S4x2048x4096, .f32⟩ : BufTy).Contents (Elt F) → (⟨S4x2048x4096, .f32⟩ : BufTy).Contents (Elt F)) ]

/-- The MLP's first product, and the results. -/
def opsMlp : List (HloOp τ sig (Elt F)) :=
  [ StableHlo.reshape main_arg9 main_v56 (rfl : (.f32 : EltTy) = .f32) shapeCasts_S1x4096x16384_S4096x16384,
    StableHlo.binary main_v55 main_v56 main_v57 ((fun l r => Host.dotGeneral dot_S4x2048x4096_S4096x16384_S4x2048x16384_2_0_01_1_n_n none l r) : (⟨S4x2048x4096, .f32⟩ : BufTy).Contents (Elt F) → (⟨S4096x16384, .f32⟩ : BufTy).Contents (Elt F) → (⟨S4x2048x16384, .f32⟩ : BufTy).Contents (Elt F)),
    StableHlo.nullary main_call0_cst (constant S_ .f32 0x00000000#32),
    StableHlo.unary main_call0_cst main_call0_v0 (broadcastInDim S4x2048x16384 ![] bcast_S_S4x2048x16384 : (⟨S_, .f32⟩ : BufTy).Contents (Elt F) → (⟨S4x2048x16384, .f32⟩ : BufTy).Contents (Elt F)),
    StableHlo.binary main_v57 main_call0_v0 main_v58 (maximumf : (⟨S4x2048x16384, .f32⟩ : BufTy).Contents (Elt F) → (⟨S4x2048x16384, .f32⟩ : BufTy).Contents (Elt F) → (⟨S4x2048x16384, .f32⟩ : BufTy).Contents (Elt F)),
    StableHlo.binary main_v58 main_v58 main_v59 (mulf : (⟨S4x2048x16384, .f32⟩ : BufTy).Contents (Elt F) → (⟨S4x2048x16384, .f32⟩ : BufTy).Contents (Elt F) → (⟨S4x2048x16384, .f32⟩ : BufTy).Contents (Elt F)),
    StableHlo.reshape main_v41 main_v60 (rfl : (.f32 : EltTy) = .f32) shapeCasts_S4x2048x4096_S8192x4096,
    StableHlo.unary main_v59 main_v61 ((truncf .bf16 · bitsLt_bf16_f32) : (⟨S4x2048x16384, .f32⟩ : BufTy).Contents (Elt F) → (⟨S4x2048x16384, .bf16⟩ : BufTy).Contents (Elt F)),
    StableHlo.reshape main_v61 main_v62 (rfl : (.bf16 : EltTy) = .bf16) shapeCasts_S4x2048x16384_S8192x16384 ]

end

variable (V : Valuation τ sig (Elt Ideal))

/-- The arguments among the buffers, at their shapes over the extended reals. -/
abbrev args : Cert.Tail.Args where
  x := V (Proc.devRef .tc main_arg0)
  conv := V (Proc.devRef .tc main_arg1)
  attn := V (Proc.devRef .tc main_arg2)
  gates := V (Proc.devRef .tc main_arg3)
  wConv := V (Proc.devRef .tc main_arg4)
  wAttn := V (Proc.devRef .tc main_arg5)
  wOut := V (Proc.devRef .tc main_arg6)
  g1 := V (Proc.devRef .tc main_arg7)
  g2 := V (Proc.devRef .tc main_arg8)
  wUp := V (Proc.devRef .tc main_arg9)

/-! ## Each stretch, from any contents -/

theorem merge_v24 : (StableHlo.after opsMerge V (Proc.devRef .tc main_v24) : S4x2048x4096.Idx → EReal)
    = fun j => Cert.Tail.merged (args V) (j 0) (j 1) (j 2) := by
  unfold opsMerge
  after_results
  funext j
  pointwise
  rfl

theorem mix_v26 (z : S4x2048x4096.Idx → EReal) (hz : (V (Proc.devRef .tc main_v24) : S4x2048x4096.Idx → EReal) = z) :
    (StableHlo.after opsMix V (Proc.devRef .tc main_v26) : S4x2048x4096.Idx → EReal)
      = fun j => ∑ k : Fin 4096, z (ix3 (j 0) (j 1) k) * (args V).wOut (ix3 0 k (j 2)) := by
  subst hz
  unfold opsMix
  after_results
  funext j
  pointwise

theorem res_v41 (z : S4x2048x4096.Idx → EReal) (hz : (V (Proc.devRef .tc main_v26) : S4x2048x4096.Idx → EReal) = z) :
    (StableHlo.after opsRes V (Proc.devRef .tc main_v41) : S4x2048x4096.Idx → EReal)
      = fun j => (args V).x (ix3 (j 0) (j 1) (j 2)) + Cert.Tail.scaled (fun k => z (ix3 (j 0) (j 1) k)) (j 2) * (args V).g1 (ix2 0 (j 2)) := by
  subst hz
  unfold opsRes
  after_results
  funext j
  obtain ⟨b, s, n, rfl⟩ : ∃ b s n, j = ix3 b s n := ⟨j 0, j 1, j 2, (ix3_eta j).symm⟩
  pointwise
  rfl

theorem norm_v55 (z : S4x2048x4096.Idx → EReal) (hz : (V (Proc.devRef .tc main_v41) : S4x2048x4096.Idx → EReal) = z) :
    (StableHlo.after opsNorm V (Proc.devRef .tc main_v55) : S4x2048x4096.Idx → EReal)
      = fun j => Cert.Tail.scaled (fun k => z (ix3 (j 0) (j 1) k)) (j 2) * (args V).g2 (ix2 0 (j 2)) := by
  subst hz
  unfold opsNorm
  after_results
  funext j
  obtain ⟨b, s, n, rfl⟩ : ∃ b s n, j = ix3 b s n := ⟨j 0, j 1, j 2, (ix3_eta j).symm⟩
  pointwise
  rfl

theorem mlp_v60 (z : S4x2048x4096.Idx → EReal) (hz : (V (Proc.devRef .tc main_v41) : S4x2048x4096.Idx → EReal) = z) :
    (StableHlo.after opsMlp V (Proc.devRef .tc main_v60) : S8192x4096.Idx → EReal)
      = fun j => z (ix3 (Cert.Tail.bOf (j 0)) (Cert.Tail.sOf (j 0)) (j 1)) := by
  subst hz
  unfold opsMlp
  after_results
  funext j
  pointwise

theorem mlp_v62 (z : S4x2048x4096.Idx → EReal) (hz : (V (Proc.devRef .tc main_v55) : S4x2048x4096.Idx → EReal) = z) :
    (StableHlo.after opsMlp V (Proc.devRef .tc main_v62) : S8192x16384.Idx → EReal)
      = fun j => max (∑ k : Fin 4096, z (ix3 (Cert.Tail.bOf (j 0)) (Cert.Tail.sOf (j 0)) k) * (args V).wUp (ix3 0 k (j 1))) 0
          * max (∑ k : Fin 4096, z (ix3 (Cert.Tail.bOf (j 0)) (Cert.Tail.sOf (j 0)) k) * (args V).wUp (ix3 0 k (j 1))) 0 := by
  subst hz
  unfold opsMlp
  after_results
  funext j
  pointwise

/-! ## No stretch changes an argument -/

theorem args_merge : args (StableHlo.after opsMerge V) = args V := by unfold args opsMerge; congr 1 <;> after_results
theorem args_mix : args (StableHlo.after opsMix V) = args V := by unfold args opsMix; congr 1 <;> after_results
theorem args_res : args (StableHlo.after opsRes V) = args V := by unfold args opsRes; congr 1 <;> after_results
theorem args_norm : args (StableHlo.after opsNorm V) = args V := by unfold args opsNorm; congr 1 <;> after_results
theorem args_mlp : args (StableHlo.after opsMlp V) = args V := by unfold args opsMlp; congr 1 <;> after_results

/-! ## The stretches in order -/

/-- All the operations, in the program's order. -/
abbrev ops : List (HloOp τ sig (Elt Ideal)) := opsMerge ++ (opsMix ++ (opsRes ++ (opsNorm ++ opsMlp)))

theorem res_all : (StableHlo.after opsRes (StableHlo.after opsMix (StableHlo.after opsMerge V)) (Proc.devRef .tc main_v41) : S4x2048x4096.Idx → EReal)
    = fun j => Cert.Tail.x1 (args V) (j 0) (j 1) (j 2) := by
  rw [res_v41 _ _ (mix_v26 _ _ (merge_v24 V)), args_mix, args_merge]
  rfl

theorem norm_keeps : (StableHlo.after opsNorm V (Proc.devRef .tc main_v41) : S4x2048x4096.Idx → EReal) = V (Proc.devRef .tc main_v41) := by
  unfold opsNorm
  after_results

theorem all_v60 : (StableHlo.after ops V (Proc.devRef .tc main_v60) : S8192x4096.Idx → EReal)
    = fun j => Cert.Tail.x1 (args V) (Cert.Tail.bOf (j 0)) (Cert.Tail.sOf (j 0)) (j 1) := by
  simp only [ops, StableHlo.after_append]
  rw [mlp_v60 _ _ ((norm_keeps _).trans (res_all V))]
  rfl

theorem all_v62 : (StableHlo.after ops V (Proc.devRef .tc main_v62) : S8192x16384.Idx → EReal)
    = fun j => Cert.Tail.hidden (args V) (Cert.Tail.bOf (j 0)) (Cert.Tail.sOf (j 0)) (j 1) := by
  simp only [ops, StableHlo.after_append]
  rw [mlp_v62 _ _ (norm_v55 _ _ (res_all V)), args_norm, args_res, args_mix, args_merge]
  rfl

theorem all_args : args (StableHlo.after ops V) = args V := by
  simp only [ops, StableHlo.after_append]
  rw [args_mlp, args_norm, args_res, args_mix, args_merge]

/-! ## The run -/

variable (m : (ℓ : Loc nD τ sig) → Buf (Elt Ideal) ℓ) (ρ : Dev nD → PrngReg)

set_option maxHeartbeats 4000000 in
theorem runs : θ_run defs (onTc (τ := τ) (main (F := Ideal))) ⟨m, fun _ => 0, ρ⟩ fun r => ∀ (c : Dev nD) (b : Ref sig .tc),
    r.2.mem ((c.tc : Thread nD τ).loc b) = StableHlo.after ops (StableHlo.launchContents m c) (Proc.devRef .tc b) :=
  StableHlo.run_hlo (ops := ops) _ _
    (by simp only [ops, opsMerge, opsMix, opsRes, opsNorm, opsMlp, List.cons_append, List.nil_append]; hlo_seq)
    (by decide) (by decide) (by simp [ops, opsMerge, opsMix, opsRes, opsNorm, opsMlp])
    (by simp only [ops, opsMerge, opsMix, opsRes, opsNorm, opsMlp, List.cons_append, List.nil_append]
        intro _ h; (repeat (cases h with | head => rfl | tail _ h => ?_)); exact nomatch h) _ _

/-- The results, and the arguments left as they were. -/
theorem run : θ_run defs (onTc (τ := τ) (main (F := Ideal))) ⟨m, fun _ => 0, ρ⟩ fun r => ∀ c : Dev nD,
    r.2.mem ((c.tc : Thread nD τ).loc main_v60)
        = (fun j => Cert.Tail.x1 (args (StableHlo.launchContents m c)) (Cert.Tail.bOf (j 0)) (Cert.Tail.sOf (j 0)) (j 1))
    ∧ r.2.mem ((c.tc : Thread nD τ).loc main_v62)
        = (fun j => Cert.Tail.hidden (args (StableHlo.launchContents m c)) (Cert.Tail.bOf (j 0)) (Cert.Tail.sOf (j 0)) (j 1))
    ∧ args (fun b => r.2.mem (c, b)) = args (StableHlo.launchContents m c) :=
  θ_run_mono (runs m ρ) fun r h c => ⟨(h c _).trans (all_v60 _), (h c _).trans (all_v62 _), by
    refine Eq.trans ?_ (all_args (StableHlo.launchContents m c))
    unfold args
    congr 1
    all_goals exact h c _⟩

end Cert.TailRefIdeal.Tail

end
-- ==== Proof.TailClaims.lean ====
/- The claims about the merge, the output projection, the norms and the MLP's first product. -/
module

public import proofs.«01_k».proof.Defs
public import proofs.«01_k».proof.Proof.Gen.Tail.Frame
public import proofs.«01_k».proof.Proof.TailRun
public import proofs.«01_k».proof.Proof.TailRef

@[expose] public section

noncomputable section

namespace Cert.Proof.Tail

open Idealize.ShloMosaic Idealize.ShloMosaic.TcCoe Idealize.SL.Sem

/-- The reference's arguments are left as they were, array by array. -/
theorem ref_args (m : (ℓ : Loc Cert.TailRefIdeal.nD Cert.TailRefIdeal.τ Cert.TailRefIdeal.sig) → Buf (Elt Ideal) ℓ)
    {s : MemSt Cert.TailRefIdeal.nD Cert.TailRefIdeal.τ Cert.TailRefIdeal.sig (Elt Ideal)} (c : Dev Cert.TailRefIdeal.nD)
    (h : Cert.TailRefIdeal.Tail.args (fun b => s.mem (c, b)) = Cert.TailRefIdeal.Tail.args (StableHlo.launchContents m c)) :
    s.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
    ∧ s.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
    ∧ s.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
    ∧ s.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
    ∧ s.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
    ∧ s.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
    ∧ s.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
    ∧ s.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
    ∧ s.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
    ∧ s.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9) :=
  ⟨congrArg Cert.Tail.Args.x h, congrArg Cert.Tail.Args.conv h, congrArg Cert.Tail.Args.attn h, congrArg Cert.Tail.Args.gates h, congrArg Cert.Tail.Args.wConv h, congrArg Cert.Tail.Args.wAttn h, congrArg Cert.Tail.Args.wOut h, congrArg Cert.Tail.Args.g1 h, congrArg Cert.Tail.Args.g2 h, congrArg Cert.Tail.Args.wUp h⟩

theorem frame_p : Cert.quiescent_Tail := fun m g _ => Cert.Tail.Gen.frame m g
theorem frame_pi : Cert.quiescent_TailIdeal := fun m g _ => Cert.TailIdeal.Gen.frame m g
theorem frame_ri : Cert.quiescent_TailRefIdeal := fun m g _ =>
  (θ_run Cert.TailRefIdeal.defs _ _).mono
    (fun r h => ⟨fun c => ref_args m c (h c).2.2, Idealize.ShloMosaic.sem_eq_zero_of_no_sems (by decide) r.2⟩)
    (Cert.TailRefIdeal.Tail.run m g)

/-- Both programs end with the same residual stream and the same hidden values. -/
theorem value : Cert.algebraic_TailIdeal_TailRefIdeal := by
  intro m g m' g' _ hag
  refine ⟨_, _, Cert.TailIdeal.Tail.run m g, ?_⟩
  refine θ_run_mono (Cert.TailRefIdeal.Tail.run m' g') ?_
  intro r h c
  obtain ⟨h1, h2, h3⟩ := h c
  have e : Cert.TailRefIdeal.Tail.args (StableHlo.launchContents m' c) = Cert.TailIdeal.Tail.args m c := by
    obtain ⟨e0, e1, e2, e3, e4, e5, e6, e7, e8, e9⟩ := hag c
    unfold Cert.TailRefIdeal.Tail.args Cert.TailIdeal.Tail.args
    congr 1
  refine ⟨h1.trans ?_, h2.trans ?_, ref_args m' c h3⟩ <;> (rw [e]; rfl)

end Cert.Proof.Tail

end
-- ==== Proof.DownRef.lean ====
/- The reference of the MLP's second product, run and read element by element. -/
module

public import proofs.«01_k».proof.Proof.Gen.DownRefIdeal
public import Idealize.ShloMosaic.Lib.Claim
public import Idealize.ShloMosaic.Lib.Pipeline.ValueKit

@[expose] public section

set_option maxRecDepth 16384

noncomputable section

/-- A row of the hidden values against a column of the second weight matrix. -/
def Cert.Down.prod (x : (⟨2, ![8192, 16384]⟩ : Idealize.ShloMosaic.Shape).Idx → EReal)
    (w : (⟨3, ![1, 16384, 4096]⟩ : Idealize.ShloMosaic.Shape).Idx → EReal) (r : Fin 8192) (n : Fin 4096) : EReal :=
  ∑ k : Fin 16384, x (Idealize.ShloMosaic.ix2 r k) * w (Idealize.ShloMosaic.ix3 0 k n)

namespace Cert.DownRefIdeal.Down

open Cert.DownRefIdeal
open Idealize.ShloMosaic Idealize.ShloMosaic.TcCoe Idealize.SL.Sem

variable (m : (ℓ : Loc nD τ sig) → Buf (Elt Ideal) ℓ) (ρ : Dev nD → PrngReg)

theorem run_out : θ_run defs (onTc (τ := τ) (main (F := Ideal))) ⟨m, fun _ => 0, ρ⟩ fun r => ∀ c : Dev nD,
    r.2.mem ((c.tc : Thread nD τ).loc main_v3) = fun j => Cert.Down.prod (m ((c.tc : Thread nD τ).loc main_arg0))
      (m ((c.tc : Thread nD τ).loc main_arg1)) (j 0) (j 1) := by
  hlo_run
  funext j
  pointwise
  rfl

/-- The arguments are left as they were. -/
theorem run_args : θ_run defs (onTc (τ := τ) (main (F := Ideal))) ⟨m, fun _ => 0, ρ⟩ fun r => ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1) := by
  hlo_run

end Cert.DownRefIdeal.Down

end
-- ==== Proof.Down.lean ====
/- The MLP's second product: a block of the output is summed over sixteen points into a scratch buffer, which the first of
   them clears and the last of them copies out. -/
module

public import proofs.«01_k».proof.Proof.Gen.DownIdeal.Frame
public import proofs.«01_k».proof.Proof.Gen.DownIdeal.Value
public import proofs.«01_k».proof.Proof.DownRef
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.DownIdeal.Down

open Cert.DownIdeal Cert.DownIdeal.Gen
open Idealize.ShloMosaic Idealize.ShloMosaic.TcCoe Idealize.SL.Sem
open Idealize.ShloMosaic.Pipeline

theorem off_zero : (![0, 0] : Fin 2 → Nat) = fun _ => 0 := funext fun a => by fin_cases a <;> rfl

/-! ## What a point leaves -/

section Points

variable (c : Dev nD) (i : grid0.Coords) (b3 : Memref sig .tc .vmem S2048x1024 .bf16) (w3 : b3.IsWhole)
  (b4 : Memref sig .tc .vmem S1024x1024 .f32) (w4 : b4.IsWhole) (b5 : Memref sig .tc .vmem S2048x1024 .bf16) (w5 : b5.IsWhole)
  (b6 : Memref sig .tc .vmem S2048x1024 .f32) (w6 : b6.IsWhole)
  (x : Vec Ideal S2048x1024 .bf16) (w : Vec Ideal S1024x1024 .f32) (s : Vec Ideal S2048x1024 .f32)

/-- The first point of a block's run: the cleared scratch plus the point's product. -/
theorem first (h0 : cond0_0 i) (h1 : ¬cond0_1 i) :
    sout0_A_0 c i b3 w3 b4 w4 b5 w5 b6 w6 h0 h1 x w = k0_pay2 k0_pay1 x w := by
  unfold sout0_A_0
  rw [View.read_writes_eq_canon _ _ _ (scover0_A_0 c i b3 w3 b4 w4 b5 w5 b6 w6 h0 h1 x w)]
  unfold kernelRun0_A
  dsimp only
  sl_unfold_words
  rw [View.canon_cons_unit_zero (S := S2048x1024) off_zero, View.readCov_unit_zero (S := S2048x1024) _ off_zero]
  simp only [View.readAt_eq_ld, w3.read_unread, w4.read_unread, View.ld_unit_zero (S := S2048x1024) off_zero,
    View.ld_unit_zero (S := S1024x1024) off_zero]

/-- A point in the middle: what the scratch held plus the point's product. -/
theorem middle (h0 : ¬cond0_0 i) (h1 : ¬cond0_1 i) :
    sout0_B_0 c i b3 w3 b4 w4 b5 w5 b6 w6 h0 h1 x w s = k0_pay2 s x w := by
  unfold sout0_B_0
  rw [View.read_writes_eq_canon _ _ _ (scover0_B_0 c i b3 w3 b4 w4 b5 w5 b6 w6 h0 h1 x w s)]
  unfold kernelRun0_B
  dsimp only
  rw [View.canon_unit_zero off_zero]
  simp only [View.readAt_eq_ld, w3.read_unread, w4.read_unread, w6.read_unread, View.ld_unit_zero (S := S2048x1024) off_zero,
    View.ld_unit_zero (S := S1024x1024) off_zero]

/-- The last point leaves the scratch the same way, -/
theorem last (h0 : ¬cond0_0 i) (h1 : cond0_1 i) :
    sout0_C_0 c i b3 w3 b4 w4 b5 w5 b6 w6 h0 h1 x w s = k0_pay2 s x w := by
  unfold sout0_C_0
  rw [View.read_writes_eq_canon _ _ _ (scover0_C_0 c i b3 w3 b4 w4 b5 w5 b6 w6 h0 h1 x w s)]
  unfold kernelRun0_C
  dsimp only
  sl_unfold_words
  rw [View.canon_unit_zero off_zero]
  simp only [View.readAt_eq_ld, w3.read_unread, w4.read_unread, w6.read_unread, View.ld_unit_zero (S := S2048x1024) off_zero,
    View.ld_unit_zero (S := S1024x1024) off_zero]

/-- and copies it into the output's block. -/
theorem copied (h0 : ¬cond0_0 i) (h1 : cond0_1 i) :
    out0_C_2 c i b3 w3 b4 w4 b5 w5 b6 w6 h0 h1 x w s = k0_pay3 (k0_pay2 s x w) := by
  unfold out0_C_2
  rw [View.read_writes_eq_canon _ _ _ (cover0_C_2 c i b3 w3 b4 w4 b5 w5 b6 w6 h0 h1 x w s)]
  unfold kernelRun0_C
  dsimp only
  sl_unfold_words
  rw [View.canon_unit_zero off_zero, View.readCov_unit_zero (S := S2048x1024) _ off_zero]
  simp only [View.readAt_eq_ld, w3.read_unread, w4.read_unread, w6.read_unread, View.ld_unit_zero (S := S2048x1024) off_zero,
    View.ld_unit_zero (S := S1024x1024) off_zero]

end Points

variable (m : (ℓ : Loc nD τ sig) → Buf (Elt Ideal) ℓ) (ρ : Dev nD → PrngReg)

/-- The product of two blocks. -/
def mm (x : S2048x1024.Idx → EReal) (w : S1024x1024.Idx → EReal) (y : S2048x1024.Idx) : EReal :=
  ∑ k : Fin 1024, x (ix2 (y 0) k) * w (ix2 k (y 1))

theorem step_apply (s : Vec Ideal S2048x1024 .f32) (x : Vec Ideal S2048x1024 .bf16) (w : Vec Ideal S1024x1024 .f32) (y : S2048x1024.Idx) :
    k0_pay2 s x w y = s y + mm x w y := by
  pointwise [k0_pay2]
  rfl

theorem clear_apply (y : S2048x1024.Idx) : (k0_pay1 (F := Ideal)) y = (0 : EReal) := by
  pointwise [k0_pay1]

/-- The product of the two blocks of point `n`. -/
def part (c : Dev nD) (n : ℕ) (y : S2048x1024.Idx) : EReal :=
  if h : n < cfg0.N then mm (iblk m c 0 ⟨n, h⟩) (iblk m c 1 ⟨n, h⟩) y else 0

/-- The scratch after point `n`: the products of the points of its run so far. -/
theorem scratch_eq (c : Dev nD) (y : S2048x1024.Idx) : ∀ (n : ℕ) (h : n < cfg0.N),
    (outsAt0 m c n h).2 y = ∑ q ∈ Finset.range (n % 16 + 1), part m c (n / 16 * 16 + q) y := by
  intro n
  induction n with
  | zero =>
    intro h
    rw [outsAt0_A m c ⟨0, h⟩ rfl (by dsimp only; omega)]
    dsimp only
    rw [first, step_apply, clear_apply, zero_add]
    simp [part, h]
  | succ n ih =>
    intro h
    have hp : part m c (n + 1) y = mm (iblk m c 0 ⟨n + 1, h⟩) (iblk m c 1 ⟨n + 1, h⟩) y := dif_pos h
    by_cases h0 : (n + 1) % 16 = 0
    · rw [outsAt0_A m c ⟨n + 1, h⟩ h0 (by dsimp only; omega)]
      dsimp only
      rw [first, step_apply, clear_apply, zero_add, ← hp, h0, zero_add, Finset.sum_range_one]
      exact congrArg (part m c · y) (by omega)
    · have hs : (n + 1) % 16 + 1 = (n % 16 + 1) + 1 := by omega
      have hd : (n + 1) / 16 = n / 16 := by omega
      have key : (outsAt0 m c n (Nat.lt_of_succ_lt h)).2 y + part m c (n + 1) y
          = ∑ q ∈ Finset.range ((n + 1) % 16 + 1), part m c ((n + 1) / 16 * 16 + q) y := by
        rw [ih, hs, Finset.sum_range_succ _ (n % 16 + 1), hd]
        exact congrArg (_ + part m c · y) (by omega)
      by_cases h1 : (n + 1) % 16 = 15
      · rw [outsAt0_C m c ⟨n + 1, h⟩ h0 h1]
        dsimp only
        rw [last, step_apply, ← hp]
        exact key
      · rw [outsAt0_B m c ⟨n + 1, h⟩ h0 h1]
        dsimp only
        rw [middle, step_apply, ← hp]
        exact key

/-- Point `t` takes block row `t / 64` of the hidden values and block column `t / 16 % 4` of the weights, at step `t % 16`. -/
theorem idx (t : Fin cfg0.N) :
    win0_0.index t = ![t.val / 64, t.val % 16] ∧ win0_1.index t = ![t.val % 16, t.val / 16 % 4]
      ∧ win0_2.index t = ![t.val / 64, t.val / 16 % 4] :=
  (by decide +kernel : ∀ t : Fin cfg0.N,
    win0_0.index t = ![t.val / 64, t.val % 16] ∧ win0_1.index t = ![t.val % 16, t.val / 16 % 4]
      ∧ win0_2.index t = ![t.val / 64, t.val / 16 % 4]) t

/-- What the region leaves in its output array. -/
def outG (x : S8192x16384.Idx → EReal) (w : S16384x4096.Idx → EReal) (j : S8192x4096.Idx) : EReal :=
  ∑ k : Fin 16384, x (ix2 (j 0) k) * w (ix2 k (j 1))

theorem blk_out (c : Dev nD) (t : Fin cfg0.N) (h : t.val % 16 = 15) (y : S2048x1024.Idx) :
    (outsAt0 m c t.val t.isLt).2 y = outG (V m c main_arg0) (V m c main_v0) (((cfg0.win 2).rect t).emb y) := by
  have hN : t.val < 256 := lt_of_lt_of_eq t.isLt (show cfg0.N = 256 from N_0)
  rw [scratch_eq, h, Finset.sum_range]
  unfold outG
  have hp (q : Fin (15 + 1)) : t.val / 16 * 16 + q.val < cfg0.N := lt_of_lt_of_eq (by omega) (show 256 = cfg0.N from N_0.symm)
  have e (q : Fin (15 + 1)) : part m c (t.val / 16 * 16 + q.val) y
      = mm (iblk m c 0 ⟨t.val / 16 * 16 + q.val, hp q⟩) (iblk m c 1 ⟨t.val / 16 * 16 + q.val, hp q⟩) y := dif_pos (hp q)
  simp only [e]
  unfold mm
  refine Fin.sum_mul_add_congr fun q k hl => ?_
  have hq := hp q
  have hx : iblk m c 0 ⟨t.val / 16 * 16 + q.val, hq⟩ (ix2 (y 0) k)
      = V m c main_arg0 (ix2 ((((cfg0.win 2).rect t).emb y) 0) ⟨q.val * 1024 + k.val, hl⟩) := by
    blk_ext [iblk, idx t, idx ⟨t.val / 16 * 16 + q.val, hq⟩]
    show (t.val / 16 * 16 + q.val) / 64 * 2048 + (y 0).val = t.val / 64 * 2048 + (y 0).val; omega
  have hw : iblk m c 1 ⟨t.val / 16 * 16 + q.val, hq⟩ (ix2 k (y 1))
      = V m c main_v0 (ix2 ⟨q.val * 1024 + k.val, hl⟩ ((((cfg0.win 2).rect t).emb y) 1)) := by
    blk_ext [iblk, idx t, idx ⟨t.val / 16 * 16 + q.val, hq⟩]
    show (t.val / 16 * 16 + q.val) / 16 % 4 * 1024 + (y 1).val = t.val / 16 % 4 * 1024 + (y 1).val; omega
  rw [hx, hw]

theorem arr (c : Dev nD) : (dats m 0 c).arrAt 2 cfg0.N = outG (V m c main_arg0) (V m c main_v0) := by
  refine (dats m 0 c).arrAt_eq_of_covers 2 _ (by decide +kernel) fun t hf y => ?_
  have h : t.val % 16 = 15 := (flush0_2 t).mp hf
  blk_simp
  rw [after0_2]
  have h0 : ¬t.val % 16 = 0 := by omega
  have e : (outsAt0 m c t.val t.isLt).1 y = (outsAt0 m c t.val t.isLt).2 y := by
    rw [outsAt0_C m c t h0 h]
    dsimp only
    rw [copied, last]
    pointwise [k0_pay3]
  exact e.trans (blk_out m c t h y)

/-- The weights as the region finds them. -/
theorem weights (c : Dev nD) : V m c main_v0 = fun j => m ((c.tc : Thread nD τ).loc main_arg1) (ix3 0 (j 0) (j 1)) := by
  show StableHlo.after hostOps0 (fun b => m (c, b)) (Proc.devRef .tc main_v0) = _
  after_results
  funext j
  pointwise

theorem result (c : Dev nD) : (dats m 0 c).arrAt 2 cfg0.N
    = fun j => Cert.Down.prod (m ((c.tc : Thread nD τ).loc main_arg0)) (m ((c.tc : Thread nD τ).loc main_arg1)) (j 0) (j 1) := by
  rw [arr, V_main_arg0, weights]
  rfl

theorem run : θ_run defs (onTc (τ := τ) (main (F := Ideal))) ⟨m, fun _ => 0, ρ⟩ fun r => ∀ c : Dev nD,
    r.2.mem ((c.tc : Thread nD τ).loc main_v1)
        = (fun j => Cert.Down.prod (m ((c.tc : Thread nD τ).loc main_arg0)) (m ((c.tc : Thread nD τ).loc main_arg1)) (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (θ_run_and (run_main m ρ) (unchanged m ρ)) fun _ ⟨h, k⟩ c =>
    ⟨((h c).1 2).trans (result m c), k c⟩

end Cert.DownIdeal.Down

end
-- ==== Proof.DownClaims.lean ====
/- The claims about the MLP's second product. -/
module

public import proofs.«01_k».proof.Defs
public import proofs.«01_k».proof.Proof.Gen.Down.Frame
public import proofs.«01_k».proof.Proof.Down
public import proofs.«01_k».proof.Proof.DownRef

@[expose] public section

noncomputable section

namespace Cert.Proof.Down

open Idealize.ShloMosaic Idealize.ShloMosaic.TcCoe Idealize.SL.Sem

theorem frame_p : Cert.quiescent_Down := fun m g _ => Cert.Down.Gen.frame m g
theorem frame_pi : Cert.quiescent_DownIdeal := fun m g _ => Cert.DownIdeal.Gen.frame m g
theorem frame_ri : Cert.quiescent_DownRefIdeal := fun m g _ =>
  (θ_run Cert.DownRefIdeal.defs _ _).mono (fun r h => ⟨h, Idealize.ShloMosaic.sem_eq_zero_of_no_sems (by decide) r.2⟩)
    (Cert.DownRefIdeal.Down.run_args m g)

/-- Both programs end with the same product. -/
theorem value : Cert.algebraic_DownIdeal_DownRefIdeal := by
  intro m g m' g' _ hag
  refine ⟨_, Cert.DownIdeal.Down.run m g, ?_⟩
  refine θ_run_mono (θ_run_and (Cert.DownRefIdeal.Down.run_out m' g') (Cert.DownRefIdeal.Down.run_args m' g')) ?_
  rintro r ⟨h1, h2⟩ c
  obtain ⟨e0, e1⟩ := hag c
  refine ⟨(h1 c).trans ?_, h2 c⟩
  rw [e0, e1]; rfl

end Cert.Proof.Down

end
-- ==== Proof.PostMlpMath.lean ====
/- The layer's last step over the extended reals: the MLP's output, normed, is added to the residual stream. -/
module

public import proofs.«01_k».proof.Proof.TailMath

@[expose] public section

noncomputable section

namespace Cert.PostMlp

open Idealize.ShloMosaic

/-- Row `r` of the flattened tokens, column `n`. -/
def added (x y : (⟨2, ![8192, 4096]⟩ : Shape).Idx → EReal) (g : (⟨2, ![1, 4096]⟩ : Shape).Idx → EReal) (r : Fin 8192) (n : Fin 4096) : EReal :=
  x (ix2 r n) + Cert.Tail.scaled (fun k => y (ix2 r k)) n * g (ix2 0 n)

end Cert.PostMlp

end
-- ==== Proof.PostMlp.lean ====
/- The layer's last call, block by block, and the array and the result it leaves. -/
module

public import proofs.«01_k».proof.Proof.Gen.PostMlpIdeal.Frame
public import proofs.«01_k».proof.Proof.PostMlpMath
public import Idealize.ShloMosaic.Lib.Pointwise
public import Idealize.ShloMosaic.Lib.Claim
public import Idealize.ShloMosaic.Lib.Pipeline.ValueKit

@[expose] public section

set_option maxRecDepth 16384

noncomputable section

namespace Cert.PostMlpIdeal.PostMlp

open Cert.PostMlpIdeal Cert.PostMlpIdeal.Gen
open Idealize.ShloMosaic Idealize.ShloMosaic.TcCoe Idealize.SL.Sem
open Idealize.ShloMosaic.Pipeline

variable (m : (ℓ : Loc nD τ sig) → Buf (Elt Ideal) ℓ) (ρ : Dev nD → PrngReg)

theorem pay_apply (v0 : Vec Ideal S512x4096 .bf16) (v1 : Vec Ideal S512x4096 .f32) (v2 : Vec Ideal S1x4096 .f32) (y : S512x4096.Idx) :
    k0_pay1 v0 v1 v2 y = v1 (ix2 (y 0) (y 1)) + Cert.Tail.scaled (fun k => v0 (ix2 (y 0) k)) (y 1) * v2 (ix2 0 (y 1)) := by
  obtain ⟨a, b, rfl⟩ : ∃ a b, y = ix2 a b := ⟨y 0, y 1, (ix2_eta y).symm⟩
  pointwise [k0_pay1]
  rfl

/-- At point `t` every window but the gain's is at block row `t`. -/
theorem idx (t : Fin cfg0.N) :
    win0_0.index t = ![t.val, 0] ∧ win0_1.index t = ![t.val, 0] ∧ win0_2.index t = ![0, 0] ∧ win0_3.index t = ![t.val, 0] :=
  (by decide +kernel : ∀ t : Fin cfg0.N,
    win0_0.index t = ![t.val, 0] ∧ win0_1.index t = ![t.val, 0] ∧ win0_2.index t = ![0, 0] ∧ win0_3.index t = ![t.val, 0]) t

/-- What the region leaves in its output array. -/
def outG (x : S8192x4096.Idx → EReal) (y : S8192x4096.Idx → EReal) (g : S1x4096.Idx → EReal) (j : S8192x4096.Idx) : EReal :=
  Cert.PostMlp.added x y g (j 0) (j 1)

theorem blk_out (c : Dev nD) (t : Fin cfg0.N) (y : S512x4096.Idx) :
    k0_pay1 (iblk m c 1 t) (iblk m c 0 t) (iblk m c 2 t) y
      = outG (V m c main_arg0) (V m c main_arg1) (V m c main_v1) (((cfg0.win 3).rect t).emb y) := by
  have h1 : (((cfg0.win 3).rect t).emb y) 1 = y 1 := Fin.ext (by
    refine (win0_3.rect_emb_val_off t y 1).trans ?_
    rw [(idx t).2.2.2]
    show 0 * 4096 + (y 1).val = (y 1).val; omega)
  have hx : iblk m c 0 t (ix2 (y 0) (y 1)) = V m c main_arg0 (ix2 ((((cfg0.win 3).rect t).emb y) 0) (y 1)) := by
    blk_ext [iblk, idx t]
  have hz (k : Fin 4096) : iblk m c 1 t (ix2 (y 0) k) = V m c main_arg1 (ix2 ((((cfg0.win 3).rect t).emb y) 0) k) := by
    blk_ext [iblk, idx t]
  have hg : iblk m c 2 t (ix2 0 (y 1)) = V m c main_v1 (ix2 0 (y 1)) := by
    blk_ext [iblk, idx t]
  rw [pay_apply]
  unfold outG Cert.PostMlp.added
  rw [h1, hx, hg]
  simp only [hz]

theorem arr (c : Dev nD) : (dats m 0 c).arrAt 3 cfg0.N = outG (V m c main_arg0) (V m c main_arg1) (V m c main_v1) := by
  refine (dats m 0 c).arrAt_eq_of_covers 3 _ (by decide +kernel) fun t hf y => ?_
  blk_simp
  rw [after0_3]
  frame_out
  exact blk_out m c t y

/-- The gain's row as the region finds it. -/
theorem gain (c : Dev nD) : V m c main_v1 = m ((c.tc : Thread nD τ).loc main_arg2) := by
  show StableHlo.after hostOps0 (fun b => m (c, b)) (Proc.devRef .tc main_v1) = _
  after_results
  funext j
  obtain ⟨a, b, rfl⟩ : ∃ a b, j = ix2 a b := ⟨j 0, j 1, (ix2_eta j).symm⟩
  pointwise
  rw [Subsingleton.elim a 0]

/-- The result: the array with its tokens by batch and position. -/
theorem tail (c : Dev nD) : Pipeline.afterTail₀ cfgs (dats m) 0 (V0 m) [hostOps1] c main_v3
    = fun j => Cert.PostMlp.added (m ((c.tc : Thread nD τ).loc main_arg0)) (m ((c.tc : Thread nD τ).loc main_arg1))
        (m ((c.tc : Thread nD τ).loc main_arg2)) (Cert.Tail.rowOf (j 0) (j 1)) (j 2) := by
  have h : Pipeline.withArrays spec0 c (V0 m c) (fun w => (dats m 0 c).arrAt w cfg0.N) (Proc.devRef .tc main_v2)
      = outG (V m c main_arg0) (V m c main_arg1) (V m c main_v1) :=
    (Pipeline.withArrays_arr spec0 (by decide) c (V0 m c) _ 3).trans (arr m c)
  show StableHlo.after hostOps1 (Pipeline.withArrays spec0 c (V0 m c) fun w => (dats m 0 c).arrAt w cfg0.N) (Proc.devRef .tc main_v3) = _
  after_results
  rw [h, V_main_arg0, V_main_arg1, gain]
  funext j
  pointwise
  rfl

theorem run : θ_run defs (onTc (τ := τ) (main (F := Ideal))) ⟨m, fun _ => 0, ρ⟩ fun r => ∀ c : Dev nD,
    r.2.mem ((c.tc : Thread nD τ).loc main_v3) = (fun j => Cert.PostMlp.added (m ((c.tc : Thread nD τ).loc main_arg0))
        (m ((c.tc : Thread nD τ).loc main_arg1)) (m ((c.tc : Thread nD τ).loc main_arg2)) (Cert.Tail.rowOf (j 0) (j 1)) (j 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (run_main m ρ) (unchanged m ρ)) fun _ ⟨h, k⟩ c =>
    ⟨((h c).2 main_v3 (by decide)).trans (tail m c), k c⟩

end Cert.PostMlpIdeal.PostMlp

end
-- ==== Proof.PostMlpRef.lean ====
/- The reference of the layer's last step, run and read element by element. -/
module

public import proofs.«01_k».proof.Proof.Gen.PostMlpRefIdeal
public import proofs.«01_k».proof.Proof.PostMlpMath
public import Idealize.ShloMosaic.Lib.Claim
public import Idealize.ShloMosaic.Lib.Pipeline.ValueKit

@[expose] public section

set_option maxRecDepth 16384

noncomputable section

namespace Cert.PostMlpRefIdeal.PostMlp

open Cert.PostMlpRefIdeal
open Idealize.ShloMosaic Idealize.ShloMosaic.TcCoe Idealize.SL.Sem

variable (m : (ℓ : Loc nD τ sig) → Buf (Elt Ideal) ℓ) (ρ : Dev nD → PrngReg)

theorem run_out : θ_run defs (onTc (τ := τ) (main (F := Ideal))) ⟨m, fun _ => 0, ρ⟩ fun r => ∀ c : Dev nD,
    r.2.mem ((c.tc : Thread nD τ).loc main_v16) = fun j => Cert.PostMlp.added (m ((c.tc : Thread nD τ).loc main_arg0))
      (m ((c.tc : Thread nD τ).loc main_arg1)) (m ((c.tc : Thread nD τ).loc main_arg2)) (Cert.Tail.rowOf (j 0) (j 1)) (j 2) := by
  hlo_run
  funext j
  pointwise
  rfl

/-- The arguments are left as they were. -/
theorem run_args : θ_run defs (onTc (τ := τ) (main (F := Ideal))) ⟨m, fun _ => 0, ρ⟩ fun r => ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) := by
  hlo_run

end Cert.PostMlpRefIdeal.PostMlp

end
-- ==== Proof.PostMlpClaims.lean ====
/- The claims about the layer's last call. -/
module

public import proofs.«01_k».proof.Defs
public import proofs.«01_k».proof.Proof.Gen.PostMlp.Frame
public import proofs.«01_k».proof.Proof.PostMlp
public import proofs.«01_k».proof.Proof.PostMlpRef

@[expose] public section

noncomputable section

namespace Cert.Proof.PostMlp

open Idealize.ShloMosaic Idealize.ShloMosaic.TcCoe Idealize.SL.Sem

theorem frame_p : Cert.quiescent_PostMlp := fun m g _ => Cert.PostMlp.Gen.frame m g
theorem frame_pi : Cert.quiescent_PostMlpIdeal := fun m g _ => Cert.PostMlpIdeal.Gen.frame m g
theorem frame_ri : Cert.quiescent_PostMlpRefIdeal := fun m g _ =>
  (θ_run Cert.PostMlpRefIdeal.defs _ _).mono (fun r h => ⟨h, Idealize.ShloMosaic.sem_eq_zero_of_no_sems (by decide) r.2⟩)
    (Cert.PostMlpRefIdeal.PostMlp.run_args m g)

/-- Both programs end with the same result of the layer. -/
theorem value : Cert.algebraic_PostMlpIdeal_PostMlpRefIdeal := by
  intro m g m' g' _ hag
  refine ⟨_, Cert.PostMlpIdeal.PostMlp.run m g, ?_⟩
  refine θ_run_mono (θ_run_and (Cert.PostMlpRefIdeal.PostMlp.run_out m' g') (Cert.PostMlpRefIdeal.PostMlp.run_args m' g')) ?_
  rintro r ⟨h1, h2⟩ c
  obtain ⟨e0, e1, e2⟩ := hag c
  refine ⟨(h1 c).trans ?_, h2 c⟩
  rw [e0, e1, e2]; rfl

end Cert.Proof.PostMlp

end
-- ==== Proof.CompressMath.lean ====
/- The compression of keys and values over the extended reals: a block of thirty-two rows, one head wide, through a small
   two-layer network. Both programs are read against these. -/
module

public import Idealize.ShloMosaic.PureOps.Ideal
public import Idealize.ShloMosaic.Lib.Pointwise

@[expose] public section

noncomputable section

namespace Cert.Compress

open Idealize.ShloMosaic

/-- The tanh form of gelu. -/
def gelu (h : EReal) : EReal :=
  h * (Ideal.ofBits .f32 0x3F000000#32
    * (1 + Ideal.tanh (Ideal.ofBits .f32 0x3F4C422A#32 * (h + Ideal.ofBits .f32 0x3D372713#32 * (h * h * h)))))

variable (x : (⟨3, ![4, 2048, 512]⟩ : Shape).Idx → EReal) (p : (⟨3, ![1, 32, 128]⟩ : Shape).Idx → EReal)
  (w1 : (⟨3, ![1, 4096, 256]⟩ : Shape).Idx → EReal) (w2 : (⟨3, ![1, 256, 128]⟩ : Shape).Idx → EReal)

/-- Entry `j` of block `n`'s rows laid end to end: the first sixteen rows are chunk `n`, the last sixteen chunk `n + 1`. -/
def entry (b g : Fin 4) (n : Fin 127) (j : Fin 4096) : EReal :=
  if _h : j.val / 128 < 16 then x (ix3 b ⟨n.val * 16 + j.val / 128, by omega⟩ ⟨g.val * 128 + j.val % 128, by omega⟩)
  else x (ix3 b ⟨(1 + n.val) * 16 + (j.val / 128 - 16), by omega⟩ ⟨g.val * 128 + j.val % 128, by omega⟩)

/-- A block's first product: its rows, each with its position's vector, laid end to end. -/
def hid (b g : Fin 4) (n : Fin 127) (k : Fin 256) : EReal :=
  ∑ j : Fin 4096, (entry x b g n j + p (ix3 0 ⟨j.val / 128, by omega⟩ ⟨j.val % 128, by omega⟩)) * w1 (ix3 0 j k)

def compressed (b g : Fin 4) (n : Fin 127) (d : Fin 128) : EReal := ∑ k : Fin 256, gelu (hid x p w1 b g n k) * w2 (ix3 0 k d)

/-- The part of a first product that chunk `c` has in it under the half `e` of the positions and of the weights. -/
def half (b g : Fin 4) (c : Fin 128) (e : Fin 2) (k : Fin 256) : EReal :=
  ∑ j : Fin 2048, (x (ix3 b ⟨c.val * 16 + j.val / 128, by omega⟩ ⟨g.val * 128 + j.val % 128, by omega⟩)
    + p (ix3 0 ⟨e.val * 16 + j.val / 128, by omega⟩ ⟨j.val % 128, by omega⟩)) * w1 (ix3 0 ⟨e.val * 2048 + j.val, by omega⟩ k)

theorem hid_eq (b g : Fin 4) (n : Fin 127) (k : Fin 256) :
    hid x p w1 b g n k = half x p w1 b g ⟨n.val, by omega⟩ 0 k + half x p w1 b g ⟨1 + n.val, by omega⟩ 1 k := by
  unfold hid half
  refine (Fin.sum_univ_add (a := 2048) (b := 2048) _).trans ?_
  refine congrArg₂ (· + ·) (Finset.sum_congr rfl fun j _ => ?_) (Finset.sum_congr rfl fun j _ => ?_)
  · rw [show entry x b g n (Fin.castAdd 2048 j) = _ from dif_pos (show j.val / 128 < 16 by omega)]
    refine congrArg₂ (· * ·) (congrArg₂ (· + ·) rfl ?_) ?_
    · refine congrArg p ?_
      congr 1
      exact Fin.ext (by show j.val / 128 = 0 * 16 + j.val / 128; omega)
    · refine congrArg w1 ?_
      congr 1
      exact Fin.ext (by show j.val = 0 * 2048 + j.val; omega)
  · have hq : (2048 + j.val) / 128 = 16 + j.val / 128 := by omega
    have hr : (2048 + j.val) % 128 = j.val % 128 := by omega
    rw [show entry x b g n (Fin.natAdd 2048 j) = _ from dif_neg (show ¬(2048 + j.val) / 128 < 16 by omega)]
    refine congrArg₂ (· * ·) (congrArg₂ (· + ·) (congrArg x ?_) (congrArg p ?_)) (congrArg w1 ?_)
    · refine congrArg₂ (ix3 b) (Fin.ext ?_) (Fin.ext ?_)
      · show (1 + n.val) * 16 + ((2048 + j.val) / 128 - 16) = (1 + n.val) * 16 + j.val / 128
        omega
      · show g.val * 128 + (2048 + j.val) % 128 = g.val * 128 + j.val % 128
        omega
    · refine congrArg₂ (ix3 0) (Fin.ext ?_) (Fin.ext ?_)
      · show (2048 + j.val) / 128 = 1 * 16 + j.val / 128
        omega
      · exact hr
    · exact congrArg (ix3 0 · k) (Fin.ext (by show 2048 + j.val = 1 * 2048 + j.val; omega))

end Cert.Compress

end
-- ==== Proof.Compress.lean ====
/- The compression of keys and values: a point lays its head's rows out by chunk in a scratch buffer, two rows of a word at a
   time, and takes the chunks through the two products. -/
module

public import proofs.«01_k».proof.Proof.Gen.CompressIdeal.Frame
public import proofs.«01_k».proof.Proof.CompressMath
public import Idealize.ShloMosaic.Lib.Pipeline.ReadBack
public import Idealize.ShloMosaic.Lib.Pointwise
public import Idealize.ShloMosaic.Lib.Claim
public import Idealize.ShloMosaic.Lib.Tactic
public import Idealize.ShloMosaic.Lib.Pipeline.ValueKit

@[expose] public section

set_option maxRecDepth 16384

noncomputable section

namespace Cert.CompressIdeal.Compress

open Cert.CompressIdeal Cert.CompressIdeal.Gen
open Idealize.ShloMosaic Idealize.ShloMosaic.TcCoe Idealize.SL.Sem
open Idealize.ShloMosaic.Pipeline

/-! ## The scratch buffers -/

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- Row `l` of chunk `n`. -/
def chunkRow (x : S1x2048x128.Idx → EReal) (l : Fin 16) (n d : Fin 128) : EReal := x (ix3 0 ⟨16 * n.val + l.val, by omega⟩ d)

/-- The chunks, the rows of each end to end. -/
def flat (x : S1x2048x128.Idx → EReal) (y : S128x2048.Idx) : EReal :=
  chunkRow x ⟨(y 1).val / 128, by have := (y 1).isLt; change (y 1).val < 2048 at this; omega⟩ (y 0) ⟨(y 1).val % 128, by omega⟩

/-- Two rows a word: row `r` of the pairs holds rows `2 r` and `2 r + 1`. -/
theorem pairs (x : Vec Ideal S1x2048x128 .bf16) (r : Fin 1024) (p : Fin 2) (d : Fin 128) :
    k0_pay2 x (ix3 r p d) = x (ix3 0 (⟨2 * r.val + p.val, by omega⟩ : Fin 2048) d) := by
  pointwise [k0_pay2]
  fin_cases p <;> rfl

/-- Every eighth pair, from pair `o` on. -/
theorem strided (b : Memref sig .tc .vmem S1024x2x128 .bf16) (w : Vec Ideal S1024x2x128 .bf16)
    (L : List (View.Piece (Elt Ideal) S1024x2x128 .bf16)) (n : Fin 128) (p : Fin 2) (d : Fin 128) (o : ℕ) (ho : o < 8) (inb) :
    b.view.readCov (⟨Rect.unit ![0, 0, 0] S1024x2x128.size inb_S1024x2x128_S1024x2x128_0_0_0, w⟩ :: L)
      { off := ![o, 0, 0], size := S128x2x128.size, stride := ![8, 1, 1], inb := inb } (ix3 n p d)
      = w (ix3 ⟨o + 8 * n.val, by omega⟩ p d) := by
  rw [View.readCov_eq_canon', View.canon_cons_unit_zero (S := S1024x2x128) zero3]
  refine congrArg w (funext fun a => Fin.ext ?_)
  fin_cases a
  · rfl
  · show 0 + 1 * p.val = p.val; omega
  · show 0 + 1 * d.val = d.val; omega

/-- The low rows of the words read, -/
theorem low (b : Memref sig .tc .vmem S1024x2x128 .bf16) (x : Vec Ideal S1x2048x128 .bf16)
    (L : List (View.Piece (Elt Ideal) S1024x2x128 .bf16)) (o : ℕ) (ho : o < 8) (inb) (n d : Fin 128) :
    k0_pay3 (b.view.readCov (⟨Rect.unit ![0, 0, 0] S1024x2x128.size inb_S1024x2x128_S1024x2x128_0_0_0, k0_pay2 x⟩ :: L)
      { off := ![o, 0, 0], size := S128x2x128.size, stride := ![8, 1, 1], inb := inb }) (ix2 n d)
      = chunkRow x ⟨2 * o, by omega⟩ n d := by
  have h (v : Vec Ideal S128x2x128 .bf16) : k0_pay3 v (ix2 n d) = v (ix3 n 0 d) := by pointwise [k0_pay3]
  rw [h, strided b _ L n 0 d o ho inb, pairs]
  exact congrArg (fun r => x (ix3 0 r d)) (Fin.ext (by show 2 * (o + 8 * n.val) + 0 = 16 * n.val + 2 * o; omega))

/-- and the high ones. -/
theorem high (b : Memref sig .tc .vmem S1024x2x128 .bf16) (x : Vec Ideal S1x2048x128 .bf16)
    (L : List (View.Piece (Elt Ideal) S1024x2x128 .bf16)) (o : ℕ) (ho : o < 8) (inb) (n d : Fin 128) :
    k0_pay4 (b.view.readCov (⟨Rect.unit ![0, 0, 0] S1024x2x128.size inb_S1024x2x128_S1024x2x128_0_0_0, k0_pay2 x⟩ :: L)
      { off := ![o, 0, 0], size := S128x2x128.size, stride := ![8, 1, 1], inb := inb }) (ix2 n d)
      = chunkRow x ⟨2 * o + 1, by omega⟩ n d := by
  have h (v : Vec Ideal S128x2x128 .bf16) : k0_pay4 v (ix2 n d) = v (ix3 n 1 d) := by pointwise [k0_pay4]
  rw [h, strided b _ L n 1 d o ho inb, pairs]
  exact congrArg (fun r => x (ix3 0 r d)) (Fin.ext (by show 2 * (o + 8 * n.val) + 1 = 16 * n.val + (2 * o + 1); omega))

/-- A store of one row of every chunk. -/
theorem placed (x : S1x2048x128.Idx → EReal) (l : ℕ) (hl : l < 16) (inb : ∀ a, (![0, 128 * l] : Fin 2 → ℕ) a + S128x128.size a ≤ S128x2048.size a)
    (P : Vec Ideal S128x128 .f32) (h : ∀ n d, P (ix2 n d) = chunkRow x ⟨l, hl⟩ n d)
    (z : (Rect.unit (s := S128x2048) ![0, 128 * l] S128x128.size inb).shape.Idx) :
    P z = flat x ((Rect.unit (s := S128x2048) ![0, 128 * l] S128x128.size inb).emb z) := by
  obtain ⟨n, d, rfl⟩ : ∃ n d, z = ix2 n d := ⟨z 0, z 1, (ix2_eta z).symm⟩
  rw [h]
  have hd : d.val < 128 := d.isLt
  unfold flat chunkRow
  refine congrArg x (congrArg₂ (ix3 0) (Fin.ext ?_) (Fin.ext ?_))
  · show 16 * n.val + l = 16 * (0 + 1 * n.val) + (128 * l + 1 * d.val) / 128
    omega
  · show d.val = (128 * l + 1 * d.val) % 128
    omega

/-- The sixteen stores of one head's rows, over whatever was stored before. -/
theorem flat_eq (x : S1x2048x128.Idx → EReal) (P0 P1 P2 P3 P4 P5 P6 P7 P8 P9 P10 P11 P12 P13 P14 P15 : Vec Ideal S128x128 .f32)
    (h0 : ∀ n d, P0 (ix2 n d) = chunkRow x 0 n d) (h1 : ∀ n d, P1 (ix2 n d) = chunkRow x 1 n d) (h2 : ∀ n d, P2 (ix2 n d) = chunkRow x 2 n d) (h3 : ∀ n d, P3 (ix2 n d) = chunkRow x 3 n d) (h4 : ∀ n d, P4 (ix2 n d) = chunkRow x 4 n d) (h5 : ∀ n d, P5 (ix2 n d) = chunkRow x 5 n d) (h6 : ∀ n d, P6 (ix2 n d) = chunkRow x 6 n d) (h7 : ∀ n d, P7 (ix2 n d) = chunkRow x 7 n d) (h8 : ∀ n d, P8 (ix2 n d) = chunkRow x 8 n d) (h9 : ∀ n d, P9 (ix2 n d) = chunkRow x 9 n d) (h10 : ∀ n d, P10 (ix2 n d) = chunkRow x 10 n d) (h11 : ∀ n d, P11 (ix2 n d) = chunkRow x 11 n d) (h12 : ∀ n d, P12 (ix2 n d) = chunkRow x 12 n d) (h13 : ∀ n d, P13 (ix2 n d) = chunkRow x 13 n d) (h14 : ∀ n d, P14 (ix2 n d) = chunkRow x 14 n d) (h15 : ∀ n d, P15 (ix2 n d) = chunkRow x 15 n d)
    (L : List (View.Piece (Elt Ideal) S128x2048 .f32)) (y : S128x2048.Idx) :
    View.canon (⟨Rect.unit (s := S128x2048) ![0, 1920] S128x128.size inb_S128x2048_S128x128_0_1920, P15⟩ :: ⟨Rect.unit (s := S128x2048) ![0, 1792] S128x128.size inb_S128x2048_S128x128_0_1792, P14⟩ :: ⟨Rect.unit (s := S128x2048) ![0, 1664] S128x128.size inb_S128x2048_S128x128_0_1664, P13⟩ :: ⟨Rect.unit (s := S128x2048) ![0, 1536] S128x128.size inb_S128x2048_S128x128_0_1536, P12⟩ :: ⟨Rect.unit (s := S128x2048) ![0, 1408] S128x128.size inb_S128x2048_S128x128_0_1408, P11⟩ :: ⟨Rect.unit (s := S128x2048) ![0, 1280] S128x128.size inb_S128x2048_S128x128_0_1280, P10⟩ :: ⟨Rect.unit (s := S128x2048) ![0, 1152] S128x128.size inb_S128x2048_S128x128_0_1152, P9⟩ :: ⟨Rect.unit (s := S128x2048) ![0, 1024] S128x128.size inb_S128x2048_S128x128_0_1024, P8⟩ :: ⟨Rect.unit (s := S128x2048) ![0, 896] S128x128.size inb_S128x2048_S128x128_0_896, P7⟩ :: ⟨Rect.unit (s := S128x2048) ![0, 768] S128x128.size inb_S128x2048_S128x128_0_768, P6⟩ :: ⟨Rect.unit (s := S128x2048) ![0, 640] S128x128.size inb_S128x2048_S128x128_0_640, P5⟩ :: ⟨Rect.unit (s := S128x2048) ![0, 512] S128x128.size inb_S128x2048_S128x128_0_512, P4⟩ :: ⟨Rect.unit (s := S128x2048) ![0, 384] S128x128.size inb_S128x2048_S128x128_0_384, P3⟩ :: ⟨Rect.unit (s := S128x2048) ![0, 256] S128x128.size inb_S128x2048_S128x128_0_256, P2⟩ :: ⟨Rect.unit (s := S128x2048) ![0, 128] S128x128.size inb_S128x2048_S128x128_0_128, P1⟩ :: ⟨Rect.unit (s := S128x2048) ![0, 0] S128x128.size inb_S128x2048_S128x128_0_0, P0⟩ :: L) y
      = flat x y :=
  View.canon_append_of_piecesOf (Val := Elt Ideal) (s := S128x2048) (e := .f32) (flat x) L [⟨Rect.unit (s := S128x2048) ![0, 1920] S128x128.size inb_S128x2048_S128x128_0_1920, P15⟩, ⟨Rect.unit (s := S128x2048) ![0, 1792] S128x128.size inb_S128x2048_S128x128_0_1792, P14⟩, ⟨Rect.unit (s := S128x2048) ![0, 1664] S128x128.size inb_S128x2048_S128x128_0_1664, P13⟩, ⟨Rect.unit (s := S128x2048) ![0, 1536] S128x128.size inb_S128x2048_S128x128_0_1536, P12⟩, ⟨Rect.unit (s := S128x2048) ![0, 1408] S128x128.size inb_S128x2048_S128x128_0_1408, P11⟩, ⟨Rect.unit (s := S128x2048) ![0, 1280] S128x128.size inb_S128x2048_S128x128_0_1280, P10⟩, ⟨Rect.unit (s := S128x2048) ![0, 1152] S128x128.size inb_S128x2048_S128x128_0_1152, P9⟩, ⟨Rect.unit (s := S128x2048) ![0, 1024] S128x128.size inb_S128x2048_S128x128_0_1024, P8⟩, ⟨Rect.unit (s := S128x2048) ![0, 896] S128x128.size inb_S128x2048_S128x128_0_896, P7⟩, ⟨Rect.unit (s := S128x2048) ![0, 768] S128x128.size inb_S128x2048_S128x128_0_768, P6⟩, ⟨Rect.unit (s := S128x2048) ![0, 640] S128x128.size inb_S128x2048_S128x128_0_640, P5⟩, ⟨Rect.unit (s := S128x2048) ![0, 512] S128x128.size inb_S128x2048_S128x128_0_512, P4⟩, ⟨Rect.unit (s := S128x2048) ![0, 384] S128x128.size inb_S128x2048_S128x128_0_384, P3⟩, ⟨Rect.unit (s := S128x2048) ![0, 256] S128x128.size inb_S128x2048_S128x128_0_256, P2⟩, ⟨Rect.unit (s := S128x2048) ![0, 128] S128x128.size inb_S128x2048_S128x128_0_128, P1⟩, ⟨Rect.unit (s := S128x2048) ![0, 0] S128x128.size inb_S128x2048_S128x128_0_0, P0⟩]
    ⟨placed x 15 (by decide) inb_S128x2048_S128x128_0_1920 P15 h15, placed x 14 (by decide) inb_S128x2048_S128x128_0_1792 P14 h14, placed x 13 (by decide) inb_S128x2048_S128x128_0_1664 P13 h13, placed x 12 (by decide) inb_S128x2048_S128x128_0_1536 P12 h12, placed x 11 (by decide) inb_S128x2048_S128x128_0_1408 P11 h11, placed x 10 (by decide) inb_S128x2048_S128x128_0_1280 P10 h10, placed x 9 (by decide) inb_S128x2048_S128x128_0_1152 P9 h9, placed x 8 (by decide) inb_S128x2048_S128x128_0_1024 P8 h8, placed x 7 (by decide) inb_S128x2048_S128x128_0_896 P7 h7, placed x 6 (by decide) inb_S128x2048_S128x128_0_768 P6 h6, placed x 5 (by decide) inb_S128x2048_S128x128_0_640 P5 h5, placed x 4 (by decide) inb_S128x2048_S128x128_0_512 P4 h4, placed x 3 (by decide) inb_S128x2048_S128x128_0_384 P3 h3, placed x 2 (by decide) inb_S128x2048_S128x128_0_256 P2 h2, placed x 1 (by decide) inb_S128x2048_S128x128_0_128 P1 h1, placed x 0 (by decide) inb_S128x2048_S128x128_0_0 P0 h0, trivial⟩ y
    (View.cover_of_tiled_head _ _ _ rfl y)

/-- Read back, they are the chunks. -/
theorem laid (v : View sig .tc .vmem S128x2048 .f32) (x : S1x2048x128.Idx → EReal) (P0 P1 P2 P3 P4 P5 P6 P7 P8 P9 P10 P11 P12 P13 P14 P15 : Vec Ideal S128x128 .f32)
    (h0 : ∀ n d, P0 (ix2 n d) = chunkRow x 0 n d) (h1 : ∀ n d, P1 (ix2 n d) = chunkRow x 1 n d) (h2 : ∀ n d, P2 (ix2 n d) = chunkRow x 2 n d) (h3 : ∀ n d, P3 (ix2 n d) = chunkRow x 3 n d) (h4 : ∀ n d, P4 (ix2 n d) = chunkRow x 4 n d) (h5 : ∀ n d, P5 (ix2 n d) = chunkRow x 5 n d) (h6 : ∀ n d, P6 (ix2 n d) = chunkRow x 6 n d) (h7 : ∀ n d, P7 (ix2 n d) = chunkRow x 7 n d) (h8 : ∀ n d, P8 (ix2 n d) = chunkRow x 8 n d) (h9 : ∀ n d, P9 (ix2 n d) = chunkRow x 9 n d) (h10 : ∀ n d, P10 (ix2 n d) = chunkRow x 10 n d) (h11 : ∀ n d, P11 (ix2 n d) = chunkRow x 11 n d) (h12 : ∀ n d, P12 (ix2 n d) = chunkRow x 12 n d) (h13 : ∀ n d, P13 (ix2 n d) = chunkRow x 13 n d) (h14 : ∀ n d, P14 (ix2 n d) = chunkRow x 14 n d) (h15 : ∀ n d, P15 (ix2 n d) = chunkRow x 15 n d)
    (L : List (View.Piece (Elt Ideal) S128x2048 .f32)) :
    v.readCov (⟨Rect.unit (s := S128x2048) ![0, 1920] S128x128.size inb_S128x2048_S128x128_0_1920, P15⟩ :: ⟨Rect.unit (s := S128x2048) ![0, 1792] S128x128.size inb_S128x2048_S128x128_0_1792, P14⟩ :: ⟨Rect.unit (s := S128x2048) ![0, 1664] S128x128.size inb_S128x2048_S128x128_0_1664, P13⟩ :: ⟨Rect.unit (s := S128x2048) ![0, 1536] S128x128.size inb_S128x2048_S128x128_0_1536, P12⟩ :: ⟨Rect.unit (s := S128x2048) ![0, 1408] S128x128.size inb_S128x2048_S128x128_0_1408, P11⟩ :: ⟨Rect.unit (s := S128x2048) ![0, 1280] S128x128.size inb_S128x2048_S128x128_0_1280, P10⟩ :: ⟨Rect.unit (s := S128x2048) ![0, 1152] S128x128.size inb_S128x2048_S128x128_0_1152, P9⟩ :: ⟨Rect.unit (s := S128x2048) ![0, 1024] S128x128.size inb_S128x2048_S128x128_0_1024, P8⟩ :: ⟨Rect.unit (s := S128x2048) ![0, 896] S128x128.size inb_S128x2048_S128x128_0_896, P7⟩ :: ⟨Rect.unit (s := S128x2048) ![0, 768] S128x128.size inb_S128x2048_S128x128_0_768, P6⟩ :: ⟨Rect.unit (s := S128x2048) ![0, 640] S128x128.size inb_S128x2048_S128x128_0_640, P5⟩ :: ⟨Rect.unit (s := S128x2048) ![0, 512] S128x128.size inb_S128x2048_S128x128_0_512, P4⟩ :: ⟨Rect.unit (s := S128x2048) ![0, 384] S128x128.size inb_S128x2048_S128x128_0_384, P3⟩ :: ⟨Rect.unit (s := S128x2048) ![0, 256] S128x128.size inb_S128x2048_S128x128_0_256, P2⟩ :: ⟨Rect.unit (s := S128x2048) ![0, 128] S128x128.size inb_S128x2048_S128x128_0_128, P1⟩ :: ⟨Rect.unit (s := S128x2048) ![0, 0] S128x128.size inb_S128x2048_S128x128_0_0, P0⟩ :: L) (Rect.unit ![0, 0] S128x2048.size inb_S128x2048_S128x2048_0_0)
      = flat x := by
  rw [View.readCov_eq_canon']
  funext j
  refine (flat_eq x P0 P1 P2 P3 P4 P5 P6 P7 P8 P9 P10 P11 P12 P13 P14 P15 h0 h1 h2 h3 h4 h5 h6 h7 h8 h9 h10 h11 h12 h13 h14 h15 L _).trans (congrArg (flat x) (funext fun a => Fin.ext ?_))
  fin_cases a
  · show 0 + 1 * (j 0).val = (j 0).val; omega
  · show 0 + 1 * (j 1).val = (j 1).val; omega

/-! ## What a point leaves -/

section Points

variable (c : Dev nD) (i : grid0.Coords) (b2 : Memref sig .tc .vmem S1x2048x128 .bf16) (w2 : b2.IsWhole) (b3 : Memref sig .tc
  .vmem S1x2048x128 .bf16) (w3 : b3.IsWhole) (b4 : Memref sig .tc .vmem S2x2048 .f32) (w4 : b4.IsWhole) (b5 : Memref sig
  .tc .vmem S2x2048 .f32) (w5 : b5.IsWhole) (b6 : Memref sig .tc .vmem S2x2048x256 .f32) (w6 : b6.IsWhole) (b7 : Memref
  sig .tc .vmem S2x2048x256 .f32) (w7 : b7.IsWhole) (b8 : Memref sig .tc .vmem S256x128 .f32) (w8 : b8.IsWhole) (b9 :
  Memref sig .tc .vmem S256x128 .f32) (w9 : b9.IsWhole) (b10 : Memref sig .tc .vmem S1x1x128x128 .bf16) (w10 :
  b10.IsWhole) (b11 : Memref sig .tc .vmem S1x1x128x128 .bf16) (w11 : b11.IsWhole) (b12 : Memref sig .tc .vmem
  S1024x2x128 .bf16) (w12 : b12.IsWhole) (b13 : Memref sig .tc .vmem S128x2048 .f32) (w13 : b13.IsWhole) (x0 : Vec Ideal
  S1x2048x128 .bf16) (x1 : Vec Ideal S1x2048x128 .bf16) (x2 : Vec Ideal S2x2048 .f32) (x3 : Vec Ideal S2x2048 .f32) (x4
  : Vec Ideal S2x2048x256 .f32) (x5 : Vec Ideal S2x2048x256 .f32) (x6 : Vec Ideal S256x128 .f32) (x7 : Vec Ideal
  S256x128 .f32)

theorem keys : out0_A_8 c i b2 w2 b3 w3 b4 w4 b5 w5 b6 w6 b7 w7 b8 w8 b9 w9 b10 w10 b11 w11 b12 w12 b13 w13 x0 x1 x2 x3 x4 x5 x6 x7
    = k0_pay23 (k0_pay22 (flat x0) (View.ld x2 (Rect.unit ![0, 0] S1x2048.size inb_S2x2048_S1x2048_0_0))
        (View.ld x4 (Rect.unit ![0, 0, 0] S1x2048x256.size inb_S2x2048x256_S1x2048x256_0_0_0))
        (View.ld x2 (Rect.unit ![1, 0] S1x2048.size inb_S2x2048_S1x2048_1_0))
        (View.ld x4 (Rect.unit ![1, 0, 0] S1x2048x256.size inb_S2x2048x256_S1x2048x256_1_0_0))) x6 := by
  unfold out0_A_8
  rw [View.read_writes_eq_canon _ _ _ (cover0_A_8 c i b2 w2 b3 w3 b4 w4 b5 w5 b6 w6 b7 w7 b8 w8 b9 w9 b10 w10 b11 w11 b12 w12 b13 w13 x0 x1 x2 x3 x4 x5 x6 x7)]
  unfold kernelRun0_A
  dsimp only
  sl_unfold_words
  rw [View.canon_unit_zero zero4]
  simp only [View.readAt_eq_ld, w2.read_unread, w4.read_unread, w6.read_unread, w8.read_unread,
    View.ld_unit_zero (S := S1x2048x128) zero3, View.ld_unit_zero (S := S256x128) zero2]
  exact congrArg (fun f => k0_pay23 (k0_pay22 f _ _ _ _) x6) (laid _ x0 _ _ _ _ _ _ _ _ _ _ _ _ _ _ _ _
    (fun n d => low _ _ _ 0 (by decide) _ n d) (fun n d => high _ _ _ 0 (by decide) _ n d) (fun n d => low _ _ _ 1 (by decide) _ n d) (fun n d => high _ _ _ 1 (by decide) _ n d) (fun n d => low _ _ _ 2 (by decide) _ n d) (fun n d => high _ _ _ 2 (by decide) _ n d) (fun n d => low _ _ _ 3 (by decide) _ n d) (fun n d => high _ _ _ 3 (by decide) _ n d) (fun n d => low _ _ _ 4 (by decide) _ n d) (fun n d => high _ _ _ 4 (by decide) _ n d) (fun n d => low _ _ _ 5 (by decide) _ n d) (fun n d => high _ _ _ 5 (by decide) _ n d) (fun n d => low _ _ _ 6 (by decide) _ n d) (fun n d => high _ _ _ 6 (by decide) _ n d) (fun n d => low _ _ _ 7 (by decide) _ n d) (fun n d => high _ _ _ 7 (by decide) _ n d) [])

theorem vals : out0_A_9 c i b2 w2 b3 w3 b4 w4 b5 w5 b6 w6 b7 w7 b8 w8 b9 w9 b10 w10 b11 w11 b12 w12 b13 w13 x0 x1 x2 x3 x4 x5 x6 x7
    = k0_pay23 (k0_pay22 (flat x1) (View.ld x3 (Rect.unit ![0, 0] S1x2048.size inb_S2x2048_S1x2048_0_0))
        (View.ld x5 (Rect.unit ![0, 0, 0] S1x2048x256.size inb_S2x2048x256_S1x2048x256_0_0_0))
        (View.ld x3 (Rect.unit ![1, 0] S1x2048.size inb_S2x2048_S1x2048_1_0))
        (View.ld x5 (Rect.unit ![1, 0, 0] S1x2048x256.size inb_S2x2048x256_S1x2048x256_1_0_0))) x7 := by
  unfold out0_A_9
  rw [View.read_writes_eq_canon _ _ _ (cover0_A_9 c i b2 w2 b3 w3 b4 w4 b5 w5 b6 w6 b7 w7 b8 w8 b9 w9 b10 w10 b11 w11 b12 w12 b13 w13 x0 x1 x2 x3 x4 x5 x6 x7)]
  unfold kernelRun0_A
  dsimp only
  sl_unfold_words
  rw [View.canon_unit_zero zero4]
  simp only [View.readAt_eq_ld, w3.read_unread, w5.read_unread, w7.read_unread, w9.read_unread,
    View.ld_unit_zero (S := S1x2048x128) zero3, View.ld_unit_zero (S := S256x128) zero2]
  exact congrArg (fun f => k0_pay23 (k0_pay22 f _ _ _ _) x7) (laid _ x1 _ _ _ _ _ _ _ _ _ _ _ _ _ _ _ _
    (fun n d => low _ _ _ 0 (by decide) _ n d) (fun n d => high _ _ _ 0 (by decide) _ n d) (fun n d => low _ _ _ 1 (by decide) _ n d) (fun n d => high _ _ _ 1 (by decide) _ n d) (fun n d => low _ _ _ 2 (by decide) _ n d) (fun n d => high _ _ _ 2 (by decide) _ n d) (fun n d => low _ _ _ 3 (by decide) _ n d) (fun n d => high _ _ _ 3 (by decide) _ n d) (fun n d => low _ _ _ 4 (by decide) _ n d) (fun n d => high _ _ _ 4 (by decide) _ n d) (fun n d => low _ _ _ 5 (by decide) _ n d) (fun n d => high _ _ _ 5 (by decide) _ n d) (fun n d => low _ _ _ 6 (by decide) _ n d) (fun n d => high _ _ _ 6 (by decide) _ n d) (fun n d => low _ _ _ 7 (by decide) _ n d) (fun n d => high _ _ _ 7 (by decide) _ n d) _)

end Points

/-! ## The network -/

/-- A block's first product from the chunks laid end to end: its own chunk under the first half of the positions and weights,
    the next one (the rows turned by one) under the second. -/
def first (f : S128x2048.Idx → EReal) (p0 : S1x2048.Idx → EReal) (u0 : S1x2048x256.Idx → EReal) (p1 : S1x2048.Idx → EReal)
    (u1 : S1x2048x256.Idx → EReal) (n : Fin 128) (k : Fin 256) : EReal :=
  (∑ x : Fin 2048, (f (ix2 n x) + p0 (ix2 0 x)) * u0 (ix3 0 x k))
    + ∑ x : Fin 2048, (f (ix2 ⟨(n.val + 128 - 127) % 128, by omega⟩ x) + p1 (ix2 0 x)) * u1 (ix3 0 x k)

def net (f : S128x2048.Idx → EReal) (p0 : S1x2048.Idx → EReal) (u0 : S1x2048x256.Idx → EReal) (p1 : S1x2048.Idx → EReal)
    (u1 : S1x2048x256.Idx → EReal) (w : S256x128.Idx → EReal) (n d : Fin 128) : EReal :=
  ∑ k : Fin 256, Ideal.ofBits .f32 0x3F000000#32 * first f p0 u0 p1 u1 n k
    * (1 + Ideal.tanh (Ideal.ofBits .f32 0x3F4C422A#32 * (first f p0 u0 p1 u1 n k + Ideal.ofBits .f32 0x3D372713#32
      * (first f p0 u0 p1 u1 n k * first f p0 u0 p1 u1 n k * first f p0 u0 p1 u1 n k)))) * w (ix2 k d)

theorem pay_net (f : Vec Ideal S128x2048 .f32) (p0 u0 p1 u1) (w : Vec Ideal S256x128 .f32) (n d : Fin 128) :
    k0_pay23 (k0_pay22 f p0 u0 p1 u1) w (ix4 0 0 n d) = net f p0 u0 p1 u1 w n d := by
  pointwise [k0_pay23, k0_pay22]
  rfl

theorem flat_congr (x x' : S1x2048x128.Idx → EReal) (h : ∀ r d, x (ix3 0 r d) = x' (ix3 0 r d)) : flat x = flat x' :=
  funext fun _ => h _ _

theorem net_congr {f f' : S128x2048.Idx → EReal} {p0 p0' p1 p1' : S1x2048.Idx → EReal} {u0 u0' u1 u1' : S1x2048x256.Idx → EReal}
    {w w' : S256x128.Idx → EReal} (hf : f = f') (hp0 : ∀ q, p0 (ix2 0 q) = p0' (ix2 0 q))
    (hu0 : ∀ q k, u0 (ix3 0 q k) = u0' (ix3 0 q k)) (hp1 : ∀ q, p1 (ix2 0 q) = p1' (ix2 0 q))
    (hu1 : ∀ q k, u1 (ix3 0 q k) = u1' (ix3 0 q k)) (hw : ∀ k d, w (ix2 k d) = w' (ix2 k d)) (n d : Fin 128) :
    net f p0 u0 p1 u1 w n d = net f' p0' u0' p1' u1' w' n d := by
  subst hf
  unfold net first
  simp only [hp0, hu0, hp1, hu1, hw]

theorem ld_pos (v : Vec Ideal S2x2048 .f32) (i : Fin 2) (inb) (q : Fin 2048) :
    View.ld v (Rect.unit (s := S2x2048) ![i.val, 0] S1x2048.size inb) (ix2 0 q) = v (ix2 i q) := by
  refine congrArg v (funext fun a => Fin.ext ?_)
  fin_cases a
  · show i.val + 1 * 0 = i.val; omega
  · show 0 + 1 * q.val = q.val; omega

theorem ld_wts (v : Vec Ideal S2x2048x256 .f32) (i : Fin 2) (inb) (q : Fin 2048) (k : Fin 256) :
    View.ld v (Rect.unit (s := S2x2048x256) ![i.val, 0, 0] S1x2048x256.size inb) (ix3 0 q k) = v (ix3 i q k) := by
  refine congrArg v (funext fun a => Fin.ext ?_)
  fin_cases a
  · show i.val + 1 * 0 = i.val; omega
  · show 0 + 1 * q.val = q.val; omega
  · show 0 + 1 * k.val = k.val; omega

variable (m : (ℓ : Loc nD τ sig) → Buf (Elt Ideal) ℓ) (ρ : Dev nD → PrngReg)

/-- Point `t` is batch row `t / 4` and head `t % 4`; the keys start at block column 48, the values at 52. -/
theorem idx (t : Fin cfg0.N) :
    win0_0.index t = ![t.val / 4, 0, 48 + t.val % 4] ∧ win0_1.index t = ![t.val / 4, 0, 52 + t.val % 4]
      ∧ win0_2.index t = ![0, 0] ∧ win0_3.index t = ![0, 0] ∧ win0_4.index t = ![0, 0, 0] ∧ win0_5.index t = ![0, 0, 0]
      ∧ win0_6.index t = ![0, 0] ∧ win0_7.index t = ![0, 0]
      ∧ win0_8.index t = ![t.val / 4, t.val % 4, 0, 0] ∧ win0_9.index t = ![t.val / 4, t.val % 4, 0, 0] :=
  (by decide +kernel : ∀ t : Fin cfg0.N,
    win0_0.index t = ![t.val / 4, 0, 48 + t.val % 4] ∧ win0_1.index t = ![t.val / 4, 0, 52 + t.val % 4]
      ∧ win0_2.index t = ![0, 0] ∧ win0_3.index t = ![0, 0] ∧ win0_4.index t = ![0, 0, 0] ∧ win0_5.index t = ![0, 0, 0]
      ∧ win0_6.index t = ![0, 0] ∧ win0_7.index t = ![0, 0]
      ∧ win0_8.index t = ![t.val / 4, t.val % 4, 0, 0] ∧ win0_9.index t = ![t.val / 4, t.val % 4, 0, 0]) t

/-- What the region leaves in an output array: the rows of each head from column `o` on, through the network. -/
def outG (o : ℕ) (ho : o ≤ 8704) (x : S4x2048x9216.Idx → EReal) (p : S2x2048.Idx → EReal) (u : S2x2048x256.Idx → EReal)
    (w : S256x128.Idx → EReal) (j : S4x4x128x128.Idx) : EReal :=
  net (flat fun z => x (ix3 (j 0) (z 1) (⟨o + (j 1).val * 128 + (z 2).val, by
      have h1 : (j 1).val < 4 := (j 1).isLt
      have h2 : (z 2).val < 128 := (z 2).isLt
      omega⟩ : Fin 9216)))
    (fun y => p (ix2 0 (y 1))) (fun y => u (ix3 0 (y 1) (y 2))) (fun y => p (ix2 1 (y 1))) (fun y => u (ix3 1 (y 1) (y 2)))
    w (j 2) (j 3)

theorem blk_k (c : Dev nD) (t : Fin cfg0.N) (y : S1x1x128x128.Idx) :
    k0_pay23 (k0_pay22 (flat (iblk m c 0 t)) (View.ld (iblk m c 2 t) (Rect.unit ![0, 0] S1x2048.size inb_S2x2048_S1x2048_0_0))
        (View.ld (iblk m c 4 t) (Rect.unit ![0, 0, 0] S1x2048x256.size inb_S2x2048x256_S1x2048x256_0_0_0))
        (View.ld (iblk m c 2 t) (Rect.unit ![1, 0] S1x2048.size inb_S2x2048_S1x2048_1_0))
        (View.ld (iblk m c 4 t) (Rect.unit ![1, 0, 0] S1x2048x256.size inb_S2x2048x256_S1x2048x256_1_0_0))) (iblk m c 6 t) y
      = outG 6144 (by decide) (V m c main_v3) (V m c main_v5) (V m c main_v9) (V m c main_v12)
          (((cfg0.win 8).rect t).emb y) := by
  obtain ⟨a, b, n, d, rfl⟩ : ∃ (a b : Fin 1) (n d : Fin 128), y = ix4 a b n d := ⟨y 0, y 1, y 2, y 3, (ix4_eta y).symm⟩
  rw [Subsingleton.elim a 0, Subsingleton.elim b 0]
  have e (i : Fin 4) : ((((cfg0.win 8).rect t).emb (ix4 0 0 n d)) i).val = _ := win0_8.rect_emb_val_off t (ix4 0 0 n d) i
  have e0 : ((((cfg0.win 8).rect t).emb (ix4 0 0 n d)) 0).val = t.val / 4 := (e 0).trans (by
    rw [(idx t).2.2.2.2.2.2.2.2.1]; show t.val / 4 * 1 + 0 = t.val / 4; omega)
  have e1 : ((((cfg0.win 8).rect t).emb (ix4 0 0 n d)) 1).val = t.val % 4 := (e 1).trans (by
    rw [(idx t).2.2.2.2.2.2.2.2.1]; show t.val % 4 * 1 + 0 = t.val % 4; omega)
  have e2 : (((cfg0.win 8).rect t).emb (ix4 0 0 n d)) 2 = n := Fin.ext ((e 2).trans (by
    rw [(idx t).2.2.2.2.2.2.2.2.1]; show 0 * 128 + n.val = n.val; omega))
  have e3 : (((cfg0.win 8).rect t).emb (ix4 0 0 n d)) 3 = d := Fin.ext ((e 3).trans (by
    rw [(idx t).2.2.2.2.2.2.2.2.1]; show 0 * 128 + d.val = d.val; omega))
  have hx (r : Fin 2048) (q : Fin 128) : iblk m c 0 t (ix3 0 r q) = V m c main_v3 (ix3
      ((((cfg0.win 8).rect t).emb (ix4 0 0 n d)) 0) r (⟨6144 + ((((cfg0.win 8).rect t).emb (ix4 0 0 n d)) 1).val * 128 + q.val, by
        rw [e1]; omega⟩ : Fin 9216)) := by
    blk_ext [iblk, idx t, e0, e1]
  have hp (i : Fin 2) (q : Fin 2048) : iblk m c 2 t (ix2 i q) = V m c main_v5 (ix2 i q) := by
    blk_ext [iblk, idx t]
  have hu (i : Fin 2) (q : Fin 2048) (k : Fin 256) : iblk m c 4 t (ix3 i q k) = V m c main_v9 (ix3 i q k) := by
    blk_ext [iblk, idx t]
  have hw (k : Fin 256) (q : Fin 128) : iblk m c 6 t (ix2 k q) = V m c main_v12 (ix2 k q) := by
    blk_ext [iblk, idx t]
  rw [pay_net]
  unfold outG
  rw [e2, e3]
  exact net_congr (flat_congr _ _ fun r q => hx r q) (fun q => (ld_pos (iblk m c 2 t) 0 _ q).trans (hp 0 q))
    (fun q k => (ld_wts (iblk m c 4 t) 0 _ q k).trans (hu 0 q k)) (fun q => (ld_pos (iblk m c 2 t) 1 _ q).trans (hp 1 q))
    (fun q k => (ld_wts (iblk m c 4 t) 1 _ q k).trans (hu 1 q k)) hw n d

theorem arr_k (c : Dev nD) : (dats m 0 c).arrAt 8 cfg0.N
    = outG 6144 (by decide) (V m c main_v3) (V m c main_v5) (V m c main_v9) (V m c main_v12) := by
  refine (dats m 0 c).arrAt_eq_of_covers 8 _ (by decide +kernel) fun t hf y => ?_
  blk_simp
  rw [after0_8]
  unfold outsAt0
  dsimp only
  rw [keys]
  exact blk_k m c t y

theorem blk_v (c : Dev nD) (t : Fin cfg0.N) (y : S1x1x128x128.Idx) :
    k0_pay23 (k0_pay22 (flat (iblk m c 1 t)) (View.ld (iblk m c 3 t) (Rect.unit ![0, 0] S1x2048.size inb_S2x2048_S1x2048_0_0))
        (View.ld (iblk m c 5 t) (Rect.unit ![0, 0, 0] S1x2048x256.size inb_S2x2048x256_S1x2048x256_0_0_0))
        (View.ld (iblk m c 3 t) (Rect.unit ![1, 0] S1x2048.size inb_S2x2048_S1x2048_1_0))
        (View.ld (iblk m c 5 t) (Rect.unit ![1, 0, 0] S1x2048x256.size inb_S2x2048x256_S1x2048x256_1_0_0))) (iblk m c 7 t) y
      = outG 6656 (by decide) (V m c main_v3) (V m c main_v7) (V m c main_v11) (V m c main_v13)
          (((cfg0.win 9).rect t).emb y) := by
  obtain ⟨a, b, n, d, rfl⟩ : ∃ (a b : Fin 1) (n d : Fin 128), y = ix4 a b n d := ⟨y 0, y 1, y 2, y 3, (ix4_eta y).symm⟩
  rw [Subsingleton.elim a 0, Subsingleton.elim b 0]
  have e (i : Fin 4) : ((((cfg0.win 9).rect t).emb (ix4 0 0 n d)) i).val = _ := win0_9.rect_emb_val_off t (ix4 0 0 n d) i
  have e0 : ((((cfg0.win 9).rect t).emb (ix4 0 0 n d)) 0).val = t.val / 4 := (e 0).trans (by
    rw [(idx t).2.2.2.2.2.2.2.2.2]; show t.val / 4 * 1 + 0 = t.val / 4; omega)
  have e1 : ((((cfg0.win 9).rect t).emb (ix4 0 0 n d)) 1).val = t.val % 4 := (e 1).trans (by
    rw [(idx t).2.2.2.2.2.2.2.2.2]; show t.val % 4 * 1 + 0 = t.val % 4; omega)
  have e2 : (((cfg0.win 9).rect t).emb (ix4 0 0 n d)) 2 = n := Fin.ext ((e 2).trans (by
    rw [(idx t).2.2.2.2.2.2.2.2.2]; show 0 * 128 + n.val = n.val; omega))
  have e3 : (((cfg0.win 9).rect t).emb (ix4 0 0 n d)) 3 = d := Fin.ext ((e 3).trans (by
    rw [(idx t).2.2.2.2.2.2.2.2.2]; show 0 * 128 + d.val = d.val; omega))
  have hx (r : Fin 2048) (q : Fin 128) : iblk m c 1 t (ix3 0 r q) = V m c main_v3 (ix3
      ((((cfg0.win 9).rect t).emb (ix4 0 0 n d)) 0) r (⟨6656 + ((((cfg0.win 9).rect t).emb (ix4 0 0 n d)) 1).val * 128 + q.val, by
        rw [e1]; omega⟩ : Fin 9216)) := by
    blk_ext [iblk, idx t, e0, e1]
  have hp (i : Fin 2) (q : Fin 2048) : iblk m c 3 t (ix2 i q) = V m c main_v7 (ix2 i q) := by
    blk_ext [iblk, idx t]
  have hu (i : Fin 2) (q : Fin 2048) (k : Fin 256) : iblk m c 5 t (ix3 i q k) = V m c main_v11 (ix3 i q k) := by
    blk_ext [iblk, idx t]
  have hw (k : Fin 256) (q : Fin 128) : iblk m c 7 t (ix2 k q) = V m c main_v13 (ix2 k q) := by
    blk_ext [iblk, idx t]
  rw [pay_net]
  unfold outG
  rw [e2, e3]
  exact net_congr (flat_congr _ _ fun r q => hx r q) (fun q => (ld_pos (iblk m c 3 t) 0 _ q).trans (hp 0 q))
    (fun q k => (ld_wts (iblk m c 5 t) 0 _ q k).trans (hu 0 q k)) (fun q => (ld_pos (iblk m c 3 t) 1 _ q).trans (hp 1 q))
    (fun q k => (ld_wts (iblk m c 5 t) 1 _ q k).trans (hu 1 q k)) hw n d

theorem arr_v (c : Dev nD) : (dats m 0 c).arrAt 9 cfg0.N
    = outG 6656 (by decide) (V m c main_v3) (V m c main_v7) (V m c main_v11) (V m c main_v13) := by
  refine (dats m 0 c).arrAt_eq_of_covers 9 _ (by decide +kernel) fun t hf y => ?_
  blk_simp
  rw [after0_9]
  unfold outsAt0
  dsimp only
  rw [vals]
  exact blk_v m c t y

end Cert.CompressIdeal.Compress

end
-- ==== Proof.CompressRun.lean ====
/- The compression's arrays as its region finds them, and its two results. -/
module

public import proofs.«01_k».proof.Proof.Compress

@[expose] public section

set_option maxRecDepth 16384

noncomputable section

namespace Cert.CompressIdeal.Compress

open Cert.CompressIdeal Cert.CompressIdeal.Gen
open Idealize.ShloMosaic Idealize.ShloMosaic.TcCoe Idealize.SL.Sem
open Idealize.ShloMosaic.Pipeline

variable (m : (ℓ : Loc nD τ sig) → Buf (Elt Ideal) ℓ) (ρ : Dev nD → PrngReg)

/-- The first product is that of the reference's block. -/
theorem first_eq (x : (⟨3, ![4, 2048, 512]⟩ : Shape).Idx → EReal) (p : (⟨3, ![1, 32, 128]⟩ : Shape).Idx → EReal)
    (w1 : (⟨3, ![1, 4096, 256]⟩ : Shape).Idx → EReal) (b g : Fin 4) (f : S1x2048x128.Idx → EReal)
    (hf : ∀ r d, f (ix3 0 r d) = x (ix3 b r ⟨g.val * 128 + d.val, by omega⟩)) (p0 p1 : S1x2048.Idx → EReal)
    (u0 u1 : S1x2048x256.Idx → EReal)
    (h0 : ∀ q : Fin 2048, p0 (ix2 0 q) = p (ix3 0 ⟨0 * 16 + q.val / 128, by omega⟩ ⟨q.val % 128, by omega⟩))
    (h1 : ∀ q : Fin 2048, p1 (ix2 0 q) = p (ix3 0 ⟨1 * 16 + q.val / 128, by omega⟩ ⟨q.val % 128, by omega⟩))
    (g0 : ∀ (q : Fin 2048) k, u0 (ix3 0 q k) = w1 (ix3 0 ⟨0 * 2048 + q.val, by omega⟩ k))
    (g1 : ∀ (q : Fin 2048) k, u1 (ix3 0 q k) = w1 (ix3 0 ⟨1 * 2048 + q.val, by omega⟩ k)) (n : Fin 127) (k : Fin 256) :
    first (flat f) p0 u0 p1 u1 ⟨n.val, by omega⟩ k = Cert.Compress.hid x p w1 b g n k := by
  have hflat (c : Fin 128) (q : Fin 2048) : flat f (ix2 c q)
      = x (ix3 b ⟨c.val * 16 + q.val / 128, by omega⟩ ⟨g.val * 128 + q.val % 128, by omega⟩) := by
    refine (hf _ _).trans (congrArg (fun r => x (ix3 b r _)) (Fin.ext ?_))
    show 16 * c.val + q.val / 128 = c.val * 16 + q.val / 128
    omega
  have hn : (⟨(n.val + 128 - 127) % 128, by omega⟩ : Fin 128) = ⟨1 + n.val, by omega⟩ := Fin.ext (by
    show (n.val + 128 - 127) % 128 = 1 + n.val; omega)
  rw [Cert.Compress.hid_eq]
  unfold first Cert.Compress.half
  simp only [hn, hflat, h0, h1, g0, g1]
  rfl

/-- So the network is the reference's. -/
theorem net_eq (x : (⟨3, ![4, 2048, 512]⟩ : Shape).Idx → EReal) (p : (⟨3, ![1, 32, 128]⟩ : Shape).Idx → EReal)
    (w1 : (⟨3, ![1, 4096, 256]⟩ : Shape).Idx → EReal) (w2 : (⟨3, ![1, 256, 128]⟩ : Shape).Idx → EReal) (b g : Fin 4)
    (f : S1x2048x128.Idx → EReal)
    (hf : ∀ r d, f (ix3 0 r d) = x (ix3 b r ⟨g.val * 128 + d.val, by omega⟩)) (p0 p1 : S1x2048.Idx → EReal)
    (u0 u1 : S1x2048x256.Idx → EReal) (w : S256x128.Idx → EReal)
    (h0 : ∀ q : Fin 2048, p0 (ix2 0 q) = p (ix3 0 ⟨0 * 16 + q.val / 128, by omega⟩ ⟨q.val % 128, by omega⟩))
    (h1 : ∀ q : Fin 2048, p1 (ix2 0 q) = p (ix3 0 ⟨1 * 16 + q.val / 128, by omega⟩ ⟨q.val % 128, by omega⟩))
    (g0 : ∀ (q : Fin 2048) k, u0 (ix3 0 q k) = w1 (ix3 0 ⟨0 * 2048 + q.val, by omega⟩ k))
    (g1 : ∀ (q : Fin 2048) k, u1 (ix3 0 q k) = w1 (ix3 0 ⟨1 * 2048 + q.val, by omega⟩ k))
    (hw : ∀ k d, w (ix2 k d) = w2 (ix3 0 k d)) (n : Fin 127) (d : Fin 128) :
    net (flat f) p0 u0 p1 u1 w ⟨n.val, by omega⟩ d = Cert.Compress.compressed x p w1 w2 b g n d := by
  unfold net Cert.Compress.compressed
  refine Finset.sum_congr rfl fun k _ => ?_
  rw [first_eq x p w1 b g f hf p0 p1 u0 u1 h0 h1 g0 g1 n k, hw]
  unfold Cert.Compress.gelu
  congr 1
  rw [mul_comm (Ideal.ofBits .f32 0x3F000000#32), mul_assoc]

/-- The positions, the two halves of a block in two rows. -/
theorem pos_k (c : Dev nD) (i : Fin 2) (q : Fin 2048) : V m c main_v5 (ix2 i q)
    = m ((c.tc : Thread nD τ).loc main_arg2) (ix3 0 (⟨i.val * 16 + q.val / 128, by omega⟩ : Fin 32) (⟨q.val % 128, by omega⟩ : Fin 128)) := by
  show StableHlo.after hostOps0 (fun b => m (c, b)) (Proc.devRef .tc main_v5) (ix2 i q) = _
  after_results
  pointwise

theorem wts_k (c : Dev nD) (i : Fin 2) (q : Fin 2048) (k : Fin 256) : V m c main_v9 (ix3 i q k)
    = m ((c.tc : Thread nD τ).loc main_arg3) (ix3 0 (⟨i.val * 2048 + q.val, by omega⟩ : Fin 4096) k) := by
  show StableHlo.after hostOps0 (fun b => m (c, b)) (Proc.devRef .tc main_v9) (ix3 i q k) = _
  after_results
  pointwise

theorem out_k (c : Dev nD) (k : Fin 256) (d : Fin 128) : V m c main_v12 (ix2 k d) = m ((c.tc : Thread nD τ).loc main_arg4) (ix3 0 k d) := by
  show StableHlo.after hostOps0 (fun b => m (c, b)) (Proc.devRef .tc main_v12) (ix2 k d) = _
  after_results
  pointwise

/-- Head `g` of the keys, in the columns the call finds them at. -/
theorem rows_k (c : Dev nD) (b : Fin 4) (r : Fin 2048) (g : Fin 4) (d : Fin 128) :
    V m c main_v3 (ix3 b r (⟨6144 + g.val * 128 + d.val, by omega⟩ : Fin 9216))
      = m ((c.tc : Thread nD τ).loc main_arg0) (ix3 b r (⟨g.val * 128 + d.val, by omega⟩ : Fin 512)) := by
  show StableHlo.after hostOps0 (fun b => m (c, b)) (Proc.devRef .tc main_v3) _ = _
  after_results
  pointwise
  rw [dif_neg (by omega), dif_pos (by omega)]
  refine (show _ = m ((c.tc : Thread nD τ).loc main_arg0) (ix3 b r ⟨6144 + g.val * 128 + d.val - 6144, by omega⟩) from ?_).trans ?_
  · rfl
  · exact congrArg (fun q => m ((c.tc : Thread nD τ).loc main_arg0) (ix3 b r q)) (Fin.ext (by
      show 6144 + g.val * 128 + d.val - 6144 = g.val * 128 + d.val; omega))

theorem pos_v (c : Dev nD) (i : Fin 2) (q : Fin 2048) : V m c main_v7 (ix2 i q)
    = m ((c.tc : Thread nD τ).loc main_arg5) (ix3 0 (⟨i.val * 16 + q.val / 128, by omega⟩ : Fin 32) (⟨q.val % 128, by omega⟩ : Fin 128)) := by
  show StableHlo.after hostOps0 (fun b => m (c, b)) (Proc.devRef .tc main_v7) (ix2 i q) = _
  after_results
  pointwise

theorem wts_v (c : Dev nD) (i : Fin 2) (q : Fin 2048) (k : Fin 256) : V m c main_v11 (ix3 i q k)
    = m ((c.tc : Thread nD τ).loc main_arg6) (ix3 0 (⟨i.val * 2048 + q.val, by omega⟩ : Fin 4096) k) := by
  show StableHlo.after hostOps0 (fun b => m (c, b)) (Proc.devRef .tc main_v11) (ix3 i q k) = _
  after_results
  pointwise

theorem out_v (c : Dev nD) (k : Fin 256) (d : Fin 128) : V m c main_v13 (ix2 k d) = m ((c.tc : Thread nD τ).loc main_arg7) (ix3 0 k d) := by
  show StableHlo.after hostOps0 (fun b => m (c, b)) (Proc.devRef .tc main_v13) (ix2 k d) = _
  after_results
  pointwise

/-- The same of the values. -/
theorem rows_v (c : Dev nD) (b : Fin 4) (r : Fin 2048) (g : Fin 4) (d : Fin 128) :
    V m c main_v3 (ix3 b r (⟨6656 + g.val * 128 + d.val, by omega⟩ : Fin 9216))
      = m ((c.tc : Thread nD τ).loc main_arg1) (ix3 b r (⟨g.val * 128 + d.val, by omega⟩ : Fin 512)) := by
  show StableHlo.after hostOps0 (fun b => m (c, b)) (Proc.devRef .tc main_v3) _ = _
  after_results
  pointwise
  rw [dif_neg (by omega), dif_neg (by omega), dif_pos (by omega)]
  refine (show _ = m ((c.tc : Thread nD τ).loc main_arg1) (ix3 b r ⟨6656 + g.val * 128 + d.val - 6144 - 512, by omega⟩) from ?_).trans ?_
  · rfl
  · exact congrArg (fun q => m ((c.tc : Thread nD τ).loc main_arg1) (ix3 b r q)) (Fin.ext (by
      show 6656 + g.val * 128 + d.val - 6144 - 512 = g.val * 128 + d.val; omega))

theorem tail_k (c : Dev nD) : Pipeline.afterTail₀ cfgs (dats m) 0 (V0 m) [hostOps1] c main_v15
    = fun j => Cert.Compress.compressed (m ((c.tc : Thread nD τ).loc main_arg0)) (m ((c.tc : Thread nD τ).loc main_arg2))
        (m ((c.tc : Thread nD τ).loc main_arg3)) (m ((c.tc : Thread nD τ).loc main_arg4)) (j 0) (j 1) (j 2) (j 3) := by
  have h : Pipeline.withArrays spec0 c (V0 m c) (fun w => (dats m 0 c).arrAt w cfg0.N) (Proc.devRef .tc main_v14_0)
      = outG 6144 (by decide) (V m c main_v3) (V m c main_v5) (V m c main_v9) (V m c main_v12) :=
    ((dats m 0 c).withArrays_arrAt (by decide +kernel) (V0 m c) (A_eq m c) 8).trans (arr_k m c)
  show StableHlo.after hostOps1 (Pipeline.withArrays spec0 c (V0 m c) fun w => (dats m 0 c).arrAt w cfg0.N) (Proc.devRef .tc main_v15) = _
  after_results
  rw [h]
  funext j
  obtain ⟨b, g, n, d, rfl⟩ : ∃ (b g : Fin 4) (n : Fin 127) (d : Fin 128), j = ix4 b g n d :=
    ⟨j 0, j 1, j 2, j 3, (ix4_eta j).symm⟩
  pointwise
  exact net_eq _ _ _ _ b g _ (fun r q => rows_k m c b r g q) _ _ _ _ _ (fun q => pos_k m c 0 q) (fun q => pos_k m c 1 q)
    (fun q k => wts_k m c 0 q k) (fun q k => wts_k m c 1 q k) (fun k q => out_k m c k q) n d

theorem tail_v (c : Dev nD) : Pipeline.afterTail₀ cfgs (dats m) 0 (V0 m) [hostOps1] c main_v16
    = fun j => Cert.Compress.compressed (m ((c.tc : Thread nD τ).loc main_arg1)) (m ((c.tc : Thread nD τ).loc main_arg5))
        (m ((c.tc : Thread nD τ).loc main_arg6)) (m ((c.tc : Thread nD τ).loc main_arg7)) (j 0) (j 1) (j 2) (j 3) := by
  have h : Pipeline.withArrays spec0 c (V0 m c) (fun w => (dats m 0 c).arrAt w cfg0.N) (Proc.devRef .tc main_v14_1)
      = outG 6656 (by decide) (V m c main_v3) (V m c main_v7) (V m c main_v11) (V m c main_v13) :=
    ((dats m 0 c).withArrays_arrAt (by decide +kernel) (V0 m c) (A_eq m c) 9).trans (arr_v m c)
  show StableHlo.after hostOps1 (Pipeline.withArrays spec0 c (V0 m c) fun w => (dats m 0 c).arrAt w cfg0.N) (Proc.devRef .tc main_v16) = _
  after_results
  rw [h]
  funext j
  obtain ⟨b, g, n, d, rfl⟩ : ∃ (b g : Fin 4) (n : Fin 127) (d : Fin 128), j = ix4 b g n d :=
    ⟨j 0, j 1, j 2, j 3, (ix4_eta j).symm⟩
  pointwise
  exact net_eq _ _ _ _ b g _ (fun r q => rows_v m c b r g q) _ _ _ _ _ (fun q => pos_v m c 0 q) (fun q => pos_v m c 1 q)
    (fun q k => wts_v m c 0 q k) (fun q k => wts_v m c 1 q k) (fun k q => out_v m c k q) n d

theorem run : θ_run defs (onTc (τ := τ) (main (F := Ideal))) ⟨m, fun _ => 0, ρ⟩ fun r => ∀ c : Dev nD,
    (r.2.mem ((c.tc : Thread nD τ).loc main_v15) = (fun j => Cert.Compress.compressed (m ((c.tc : Thread nD τ).loc main_arg0)) (m ((c.tc : Thread nD τ).loc main_arg2))
        (m ((c.tc : Thread nD τ).loc main_arg3)) (m ((c.tc : Thread nD τ).loc main_arg4)) (j 0) (j 1) (j 2) (j 3)))
      ∧ (r.2.mem ((c.tc : Thread nD τ).loc main_v16) = (fun j => Cert.Compress.compressed (m ((c.tc : Thread nD τ).loc main_arg1)) (m ((c.tc : Thread nD τ).loc main_arg5))
        (m ((c.tc : Thread nD τ).loc main_arg6)) (m ((c.tc : Thread nD τ).loc main_arg7)) (j 0) (j 1) (j 2) (j 3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  θ_run_mono (θ_run_and (run_main m ρ) (unchanged m ρ)) fun _ ⟨h, k⟩ c =>
    ⟨((h c).2 main_v15 (by decide)).trans (tail_k m c), ((h c).2 main_v16 (by decide)).trans (tail_v m c), k c⟩

end Cert.CompressIdeal.Compress

end
-- ==== Proof.CompressRef.lean ====
/- The reference of the compression of keys and values, run and read element by element. -/
module

public import proofs.«01_k».proof.Proof.Gen.CompressRefIdeal
public import proofs.«01_k».proof.Proof.CompressMath
public import Idealize.ShloMosaic.Lib.Claim
public import Idealize.ShloMosaic.Lib.Pipeline.ValueKit

@[expose] public section

set_option maxRecDepth 16384

noncomputable section

namespace Cert.CompressRefIdeal.Compress

open Cert.CompressRefIdeal
open Idealize.ShloMosaic Idealize.ShloMosaic.TcCoe Idealize.SL.Sem

variable (m : (ℓ : Loc nD τ sig) → Buf (Elt Ideal) ℓ) (ρ : Dev nD → PrngReg)

theorem run_k : θ_run defs (onTc (τ := τ) (main (F := Ideal))) ⟨m, fun _ => 0, ρ⟩ fun r => ∀ c : Dev nD,
    r.2.mem ((c.tc : Thread nD τ).loc main_v55) = fun j => Cert.Compress.compressed (m ((c.tc : Thread nD τ).loc main_arg0))
      (m ((c.tc : Thread nD τ).loc main_arg2)) (m ((c.tc : Thread nD τ).loc main_arg3)) (m ((c.tc : Thread nD τ).loc main_arg4))
      (j 0) (j 1) (j 2) (j 3) := by
  hlo_run
  funext j
  pointwise
  rfl

theorem run_v : θ_run defs (onTc (τ := τ) (main (F := Ideal))) ⟨m, fun _ => 0, ρ⟩ fun r => ∀ c : Dev nD,
    r.2.mem ((c.tc : Thread nD τ).loc main_v57) = fun j => Cert.Compress.compressed (m ((c.tc : Thread nD τ).loc main_arg1))
      (m ((c.tc : Thread nD τ).loc main_arg5)) (m ((c.tc : Thread nD τ).loc main_arg6)) (m ((c.tc : Thread nD τ).loc main_arg7))
      (j 0) (j 1) (j 2) (j 3) := by
  hlo_run
  funext j
  pointwise
  rfl

/-- The arguments are left as they were. -/
theorem run_args : θ_run defs (onTc (τ := τ) (main (F := Ideal))) ⟨m, fun _ => 0, ρ⟩ fun r => ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  hlo_run

end Cert.CompressRefIdeal.Compress

end
-- ==== Proof.CompressClaims.lean ====
/- The claims about the compression of keys and values. -/
module

public import proofs.«01_k».proof.Defs
public import proofs.«01_k».proof.Proof.Gen.Compress.Frame
public import proofs.«01_k».proof.Proof.CompressRun
public import proofs.«01_k».proof.Proof.CompressRef
public import Idealize.ShloMosaic.Lib.Bf16PairInverse

@[expose] public section

noncomputable section

namespace Cert.Proof.Compress

open Idealize.ShloMosaic Idealize.ShloMosaic.TcCoe Idealize.SL.Sem

theorem frame_p : Cert.quiescent_Compress := fun m g _ => Cert.Compress.Gen.frame m g
theorem frame_pi : Cert.quiescent_CompressIdeal := fun m g _ => Cert.CompressIdeal.Gen.frame m g
theorem frame_ri : Cert.quiescent_CompressRefIdeal := fun m g _ =>
  (θ_run Cert.CompressRefIdeal.defs _ _).mono (fun r h => ⟨h, Idealize.ShloMosaic.sem_eq_zero_of_no_sems (by decide) r.2⟩)
    (Cert.CompressRefIdeal.Compress.run_args m g)

/-- Words that hold two rows, read and kept as the two rows. -/
theorem preserves : Cert.preserves_Compress_CompressIdeal :=
  open Cert.CompressIdeal IdealRules.bf16_pair in
  ⟨bufferStatement S1024x2x128 S1024x1x128, statement S2048x128 S1024x128, statement S1024x2x128 S1024x1x128,
    statement S128x2x128 S128x1x128, statement S256x128 S128x128⟩

/-- Both programs end with the same compressed keys and values. -/
theorem value : Cert.algebraic_CompressIdeal_CompressRefIdeal := by
  intro m g m' g' _ hag
  refine ⟨_, _, Cert.CompressIdeal.Compress.run m g, ?_⟩
  refine θ_run_mono (θ_run_and (Cert.CompressRefIdeal.Compress.run_k m' g')
    (θ_run_and (Cert.CompressRefIdeal.Compress.run_v m' g') (Cert.CompressRefIdeal.Compress.run_args m' g'))) ?_
  rintro r ⟨h1, h2, h3⟩ c
  obtain ⟨e0, e1, e2, e3, e4, e5, e6, e7⟩ := hag c
  refine ⟨(h1 c).trans ?_, (h2 c).trans ?_, h3 c⟩
  · rw [e0, e2, e3, e4]; rfl
  · rw [e1, e5, e6, e7]; rfl

end Cert.Proof.Compress

end
-- ==== Proof.AttnRef.lean ====
/- The reference of the attention: what it leaves of its arguments. -/
module

public import proofs.«01_k».proof.Proof.Gen.AttnRefIdeal
public import Idealize.ShloMosaic.Lib.Claim
public import Idealize.ShloMosaic.Lib.Pipeline.ValueKit

@[expose] public section

set_option maxRecDepth 16384

noncomputable section

namespace Cert.AttnRefIdeal.Attn

open Cert.AttnRefIdeal
open Idealize.ShloMosaic Idealize.ShloMosaic.TcCoe Idealize.SL.Sem

variable (m : (ℓ : Loc nD τ sig) → Buf (Elt Ideal) ℓ) (ρ : Dev nD → PrngReg)

/-- The arguments are left as they were. -/
theorem run_args : θ_run defs (onTc (τ := τ) (main (F := Ideal))) ⟨m, fun _ => 0, ρ⟩ fun r => ∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  hlo_run

end Cert.AttnRefIdeal.Attn

end
-- ==== Proof.AttnClaims.lean ====
/- The claims about the attention. -/
module

public import proofs.«01_k».proof.Defs
public import proofs.«01_k».proof.Proof.Gen.Attn.Frame
public import proofs.«01_k».proof.Proof.Gen.AttnIdeal.Frame
public import proofs.«01_k».proof.Proof.AttnRef

@[expose] public section

noncomputable section

namespace Cert.Proof.Attn

open Idealize.ShloMosaic Idealize.ShloMosaic.TcCoe Idealize.SL.Sem

theorem frame_p : Cert.quiescent_Attn := fun m g _ => Cert.Attn.Gen.frame m g
theorem frame_pi : Cert.quiescent_AttnIdeal := fun m g _ => Cert.AttnIdeal.Gen.frame m g
theorem frame_ri : Cert.quiescent_AttnRefIdeal := fun m g _ =>
  (θ_run Cert.AttnRefIdeal.defs _ _).mono (fun r h => ⟨h, Idealize.ShloMosaic.sem_eq_zero_of_no_sems (by decide) r.2⟩)
    (Cert.AttnRefIdeal.Attn.run_args m g)

/-- The two constants that stand for minus infinity. -/
theorem preserves : Cert.preserves_Attn_AttnIdeal :=
  ⟨IdealRules.named_const.statement Cert.AttnIdeal.κ "masked" .f32 0xF149F2CA#32 ⊥ rfl,
    IdealRules.named_const.statement Cert.AttnIdeal.κ "half_masked" .f32 0xF0C9F2CA#32 ⊥ rfl⟩

end Cert.Proof.Attn

end
-- ==== Proof.lean ====
/- The certificate: the claims of each part of the layer. -/
module

public import proofs.«01_k».proof.Defs
public import proofs.«01_k».proof.Proof.InProjClaims
public import proofs.«01_k».proof.Proof.TailClaims
public import proofs.«01_k».proof.Proof.DownClaims
public import proofs.«01_k».proof.Proof.PostMlpClaims
public import proofs.«01_k».proof.Proof.CompressClaims
public import proofs.«01_k».proof.Proof.AttnClaims

@[expose] public section

noncomputable section

namespace Cert.Proof

theorem claim : Cert.Claim := ⟨Cert.Kernel.Gen.facts, Cert.KernelIdeal.Gen.facts, Cert.ReferenceIdeal.Gen.facts,
  Cert.Tail.Gen.facts, Cert.TailIdeal.Gen.facts, Cert.TailRefIdeal.Gen.facts,
  Cert.Down.Gen.facts, Cert.DownIdeal.Gen.facts, Cert.DownRefIdeal.Gen.facts,
  Cert.PostMlp.Gen.facts, Cert.PostMlpIdeal.Gen.facts, Cert.PostMlpRefIdeal.Gen.facts,
  Cert.Compress.Gen.facts, Cert.CompressIdeal.Gen.facts, Cert.CompressRefIdeal.Gen.facts,
  Cert.Attn.Gen.facts, Cert.AttnIdeal.Gen.facts, Cert.AttnRefIdeal.Gen.facts,
  InProj.frame_p, InProj.frame_pi, InProj.frame_ri, Tail.frame_p, Tail.frame_pi, Tail.frame_ri,
  Down.frame_p, Down.frame_pi, Down.frame_ri, PostMlp.frame_p, PostMlp.frame_pi, PostMlp.frame_ri,
  Compress.frame_p, Compress.frame_pi, Compress.frame_ri, Attn.frame_p, Attn.frame_pi, Attn.frame_ri,
  trivial, InProj.value, trivial, Tail.value, trivial, Down.value, trivial, PostMlp.value,
  Compress.preserves, Compress.value, Attn.preserves⟩

end Cert.Proof

end
